-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 1024]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S1024x1024 : Shape := ⟨2, ![1024, 1024]⟩
abbrev S16x64x512 : Shape := ⟨3, ![16, 64, 512]⟩
abbrev S16 : Shape := ⟨1, ![16]⟩
abbrev S64x512 : Shape := ⟨2, ![64, 512]⟩
abbrev S1x64x512 : Shape := ⟨3, ![1, 64, 512]⟩
abbrev S_ : Shape := ⟨0, ![]⟩
abbrev S1 : Shape := ⟨1, ![1]⟩

abbrev nBuf : Space → Nat
  | .hbm => 2
  | .vmem => 4
  | .smem => 0
  | _ => 0

abbrev bufTy : (tb : Table) → Fin (tcTables nBuf tb) → BufTy
  | .hbm, ⟨0, _⟩ => ⟨S1024x512, .bf16⟩
  | .hbm, ⟨1, _⟩ => ⟨S1024x1024, .bf16⟩
  | .local _ .vmem, ⟨0, _⟩ => ⟨S1024x512, .bf16⟩
  | .local _ .vmem, ⟨1, _⟩ => ⟨S1024x1024, .bf16⟩
  | .local _ .vmem, ⟨2, _⟩ => ⟨S16x64x512, .bf16⟩
  | .local _ .vmem, ⟨3, _⟩ => ⟨S16x64x512, .bf16⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_9 : BitVec 32 := 2#32
  let v14 : BitVec 32 := Scalar.muli v6 c2_i32_9
  let v15 : BitVec 32 := Scalar.addi c0_i32 v14
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_10 : BitVec 32 := 1#32
  let v16 : BitVec 32 := Scalar.muli v5 c1_i32_10
  let v17 : BitVec 32 := Scalar.addi v15 v16
  v17.toNat
def k0_dev2 (d0 : Dev nD) : Nat :=
  let c0_i32_13 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_12 : BitVec 32 := 2#32
  let v18 : BitVec 32 := Scalar.muli v2 c2_i32_12
  let v19 : BitVec 32 := Scalar.addi c0_i32_13 v18
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_14 : BitVec 32 := 1#32
  let v20 : BitVec 32 := Scalar.muli v7 c1_i32_14
  let v21 : BitVec 32 := Scalar.addi v19 v20
  v21.toNat
def k0_dev3 (d0 : Dev nD) : Nat :=
  let c0_i32_21 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_20 : BitVec 32 := 2#32
  let v22 : BitVec 32 := Scalar.muli v6 c2_i32_20
  let v23 : BitVec 32 := Scalar.addi c0_i32_21 v22
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_22 : BitVec 32 := 1#32
  let v24 : BitVec 32 := Scalar.muli v5 c1_i32_22
  let v25 : BitVec 32 := Scalar.addi v23 v24
  v25.toNat
def k0_dev4 (d0 : Dev nD) : Nat :=
  let c0_i32_35 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_34 : BitVec 32 := 2#32
  let v39 : BitVec 32 := Scalar.muli v6 c2_i32_34
  let v40 : BitVec 32 := Scalar.addi c0_i32_35 v39
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_36 : BitVec 32 := 1#32
  let v41 : BitVec 32 := Scalar.muli v5 c1_i32_36
  let v42 : BitVec 32 := Scalar.addi v40 v41
  v42.toNat
def k0_dev5 (d0 : Dev nD) : Nat :=
  let c0_i32_49 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_48 : BitVec 32 := 2#32
  let v56 : BitVec 32 := Scalar.muli v6 c2_i32_48
  let v57 : BitVec 32 := Scalar.addi c0_i32_49 v56
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_50 : BitVec 32 := 1#32
  let v58 : BitVec 32 := Scalar.muli v5 c1_i32_50
  let v59 : BitVec 32 := Scalar.addi v57 v58
  v59.toNat
def k0_dev6 (d0 : Dev nD) : Nat :=
  let c0_i32_62 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_61 : BitVec 32 := 2#32
  let v73 : BitVec 32 := Scalar.muli v6 c2_i32_61
  let v74 : BitVec 32 := Scalar.addi c0_i32_62 v73
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_63 : BitVec 32 := 1#32
  let v75 : BitVec 32 := Scalar.muli v5 c1_i32_63
  let v76 : BitVec 32 := Scalar.addi v74 v75
  v76.toNat
def k0_dev7 (d0 : Dev nD) : Nat :=
  let c0_i32_75 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_74 : BitVec 32 := 2#32
  let v90 : BitVec 32 := Scalar.muli v6 c2_i32_74
  let v91 : BitVec 32 := Scalar.addi c0_i32_75 v90
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_76 : BitVec 32 := 1#32
  let v92 : BitVec 32 := Scalar.muli v5 c1_i32_76
  let v93 : BitVec 32 := Scalar.addi v91 v92
  v93.toNat
def k0_dev8 (d0 : Dev nD) : Nat :=
  let c0_i32_88 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_87 : BitVec 32 := 2#32
  let v107 : BitVec 32 := Scalar.muli v6 c2_i32_87
  let v108 : BitVec 32 := Scalar.addi c0_i32_88 v107
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_89 : BitVec 32 := 1#32
  let v109 : BitVec 32 := Scalar.muli v5 c1_i32_89
  let v110 : BitVec 32 := Scalar.addi v108 v109
  v110.toNat
def k0_dev9 (d0 : Dev nD) : Nat :=
  let c0_i32_101 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_100 : BitVec 32 := 2#32
  let v124 : BitVec 32 := Scalar.muli v6 c2_i32_100
  let v125 : BitVec 32 := Scalar.addi c0_i32_101 v124
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_102 : BitVec 32 := 1#32
  let v126 : BitVec 32 := Scalar.muli v5 c1_i32_102
  let v127 : BitVec 32 := Scalar.addi v125 v126
  v127.toNat
def k0_dev10 (d0 : Dev nD) : Nat :=
  let c0_i32_114 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_113 : BitVec 32 := 2#32
  let v141 : BitVec 32 := Scalar.muli v6 c2_i32_113
  let v142 : BitVec 32 := Scalar.addi c0_i32_114 v141
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_115 : BitVec 32 := 1#32
  let v143 : BitVec 32 := Scalar.muli v5 c1_i32_115
  let v144 : BitVec 32 := Scalar.addi v142 v143
  v144.toNat
def k0_dev11 (d0 : Dev nD) : Nat :=
  let c0_i32_127 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_126 : BitVec 32 := 2#32
  let v158 : BitVec 32 := Scalar.muli v6 c2_i32_126
  let v159 : BitVec 32 := Scalar.addi c0_i32_127 v158
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_128 : BitVec 32 := 1#32
  let v160 : BitVec 32 := Scalar.muli v5 c1_i32_128
  let v161 : BitVec 32 := Scalar.addi v159 v160
  v161.toNat
def k0_dev12 (d0 : Dev nD) : Nat :=
  let c0_i32_140 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_139 : BitVec 32 := 2#32
  let v175 : BitVec 32 := Scalar.muli v6 c2_i32_139
  let v176 : BitVec 32 := Scalar.addi c0_i32_140 v175
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_141 : BitVec 32 := 1#32
  let v177 : BitVec 32 := Scalar.muli v5 c1_i32_141
  let v178 : BitVec 32 := Scalar.addi v176 v177
  v178.toNat
def k0_dev13 (d0 : Dev nD) : Nat :=
  let c0_i32_153 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_152 : BitVec 32 := 2#32
  let v192 : BitVec 32 := Scalar.muli v6 c2_i32_152
  let v193 : BitVec 32 := Scalar.addi c0_i32_153 v192
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_154 : BitVec 32 := 1#32
  let v194 : BitVec 32 := Scalar.muli v5 c1_i32_154
  let v195 : BitVec 32 := Scalar.addi v193 v194
  v195.toNat
def k0_dev14 (d0 : Dev nD) : Nat :=
  let c0_i32_166 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_165 : BitVec 32 := 2#32
  let v209 : BitVec 32 := Scalar.muli v6 c2_i32_165
  let v210 : BitVec 32 := Scalar.addi c0_i32_166 v209
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_167 : BitVec 32 := 1#32
  let v211 : BitVec 32 := Scalar.muli v5 c1_i32_167
  let v212 : BitVec 32 := Scalar.addi v210 v211
  v212.toNat
def k0_dev15 (d0 : Dev nD) : Nat :=
  let c0_i32_179 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_178 : BitVec 32 := 2#32
  let v226 : BitVec 32 := Scalar.muli v6 c2_i32_178
  let v227 : BitVec 32 := Scalar.addi c0_i32_179 v226
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_180 : BitVec 32 := 1#32
  let v228 : BitVec 32 := Scalar.muli v5 c1_i32_180
  let v229 : BitVec 32 := Scalar.addi v227 v228
  v229.toNat
def k0_dev16 (d0 : Dev nD) : Nat :=
  let c0_i32_192 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_191 : BitVec 32 := 2#32
  let v243 : BitVec 32 := Scalar.muli v6 c2_i32_191
  let v244 : BitVec 32 := Scalar.addi c0_i32_192 v243
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_193 : BitVec 32 := 1#32
  let v245 : BitVec 32 := Scalar.muli v5 c1_i32_193
  let v246 : BitVec 32 := Scalar.addi v244 v245
  v246.toNat
def k0_dev17 (d0 : Dev nD) : Nat :=
  let c0_i32_205 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_204 : BitVec 32 := 2#32
  let v260 : BitVec 32 := Scalar.muli v6 c2_i32_204
  let v261 : BitVec 32 := Scalar.addi c0_i32_205 v260
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_206 : BitVec 32 := 1#32
  let v262 : BitVec 32 := Scalar.muli v5 c1_i32_206
  let v263 : BitVec 32 := Scalar.addi v261 v262
  v263.toNat
def k0_dev18 (d0 : Dev nD) : Nat :=
  let c0_i32_218 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_217 : BitVec 32 := 2#32
  let v277 : BitVec 32 := Scalar.muli v6 c2_i32_217
  let v278 : BitVec 32 := Scalar.addi c0_i32_218 v277
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_219 : BitVec 32 := 1#32
  let v279 : BitVec 32 := Scalar.muli v5 c1_i32_219
  let v280 : BitVec 32 := Scalar.addi v278 v279
  v280.toNat
def k0_cond1 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_224 : BitVec 32 := 0#32
  let v289 : BitVec 1 := Scalar.cmpi .eq v5 c0_i32_224
  let v291 : BitVec 32 := Scalar.extui v289
  let c0_i32_226 : BitVec 32 := 0#32
  let v292 : BitVec 1 := Scalar.cmpi .ne v291 c0_i32_226
  v292

def k0_dev19 (d0 : Dev nD) : Nat :=
  let c0_i32_394 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_393 : BitVec 32 := 2#32
  let v407 : BitVec 32 := Scalar.muli v2 c2_i32_393
  let v408 : BitVec 32 := Scalar.addi c0_i32_394 v407
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_395 : BitVec 32 := 1#32
  let v409 : BitVec 32 := Scalar.muli v7 c1_i32_395
  let v410 : BitVec 32 := Scalar.addi v408 v409
  v410.toNat
def k0_dev20 (d0 : Dev nD) : Nat :=
  let c0_i32_422 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_421 : BitVec 32 := 2#32
  let v433 : BitVec 32 := Scalar.muli v2 c2_i32_421
  let v434 : BitVec 32 := Scalar.addi c0_i32_422 v433
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_423 : BitVec 32 := 1#32
  let v435 : BitVec 32 := Scalar.muli v7 c1_i32_423
  let v436 : BitVec 32 := Scalar.addi v434 v435
  v436.toNat
def k0_dev21 (d0 : Dev nD) : Nat :=
  let c0_i32_449 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_448 : BitVec 32 := 2#32
  let v459 : BitVec 32 := Scalar.muli v2 c2_i32_448
  let v460 : BitVec 32 := Scalar.addi c0_i32_449 v459
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_450 : BitVec 32 := 1#32
  let v461 : BitVec 32 := Scalar.muli v7 c1_i32_450
  let v462 : BitVec 32 := Scalar.addi v460 v461
  v462.toNat
def k0_dev22 (d0 : Dev nD) : Nat :=
  let c0_i32_476 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_475 : BitVec 32 := 2#32
  let v485 : BitVec 32 := Scalar.muli v2 c2_i32_475
  let v486 : BitVec 32 := Scalar.addi c0_i32_476 v485
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_477 : BitVec 32 := 1#32
  let v487 : BitVec 32 := Scalar.muli v7 c1_i32_477
  let v488 : BitVec 32 := Scalar.addi v486 v487
  v488.toNat
def k0_dev23 (d0 : Dev nD) : Nat :=
  let c0_i32_503 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_502 : BitVec 32 := 2#32
  let v511 : BitVec 32 := Scalar.muli v2 c2_i32_502
  let v512 : BitVec 32 := Scalar.addi c0_i32_503 v511
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_504 : BitVec 32 := 1#32
  let v513 : BitVec 32 := Scalar.muli v7 c1_i32_504
  let v514 : BitVec 32 := Scalar.addi v512 v513
  v514.toNat
def k0_dev24 (d0 : Dev nD) : Nat :=
  let c0_i32_530 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_529 : BitVec 32 := 2#32
  let v537 : BitVec 32 := Scalar.muli v2 c2_i32_529
  let v538 : BitVec 32 := Scalar.addi c0_i32_530 v537
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_531 : BitVec 32 := 1#32
  let v539 : BitVec 32 := Scalar.muli v7 c1_i32_531
  let v540 : BitVec 32 := Scalar.addi v538 v539
  v540.toNat
def k0_dev25 (d0 : Dev nD) : Nat :=
  let c0_i32_557 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_556 : BitVec 32 := 2#32
  let v563 : BitVec 32 := Scalar.muli v2 c2_i32_556
  let v564 : BitVec 32 := Scalar.addi c0_i32_557 v563
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_558 : BitVec 32 := 1#32
  let v565 : BitVec 32 := Scalar.muli v7 c1_i32_558
  let v566 : BitVec 32 := Scalar.addi v564 v565
  v566.toNat
def k0_dev26 (d0 : Dev nD) : Nat :=
  let c0_i32_584 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_583 : BitVec 32 := 2#32
  let v589 : BitVec 32 := Scalar.muli v2 c2_i32_583
  let v590 : BitVec 32 := Scalar.addi c0_i32_584 v589
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_585 : BitVec 32 := 1#32
  let v591 : BitVec 32 := Scalar.muli v7 c1_i32_585
  let v592 : BitVec 32 := Scalar.addi v590 v591
  v592.toNat
def k0_dev27 (d0 : Dev nD) : Nat :=
  let c0_i32_611 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_610 : BitVec 32 := 2#32
  let v615 : BitVec 32 := Scalar.muli v2 c2_i32_610
  let v616 : BitVec 32 := Scalar.addi c0_i32_611 v615
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_612 : BitVec 32 := 1#32
  let v617 : BitVec 32 := Scalar.muli v7 c1_i32_612
  let v618 : BitVec 32 := Scalar.addi v616 v617
  v618.toNat
def k0_dev28 (d0 : Dev nD) : Nat :=
  let c0_i32_638 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_637 : BitVec 32 := 2#32
  let v641 : BitVec 32 := Scalar.muli v2 c2_i32_637
  let v642 : BitVec 32 := Scalar.addi c0_i32_638 v641
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_639 : BitVec 32 := 1#32
  let v643 : BitVec 32 := Scalar.muli v7 c1_i32_639
  let v644 : BitVec 32 := Scalar.addi v642 v643
  v644.toNat
def k0_dev29 (d0 : Dev nD) : Nat :=
  let c0_i32_665 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_664 : BitVec 32 := 2#32
  let v667 : BitVec 32 := Scalar.muli v2 c2_i32_664
  let v668 : BitVec 32 := Scalar.addi c0_i32_665 v667
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_666 : BitVec 32 := 1#32
  let v669 : BitVec 32 := Scalar.muli v7 c1_i32_666
  let v670 : BitVec 32 := Scalar.addi v668 v669
  v670.toNat
def k0_dev30 (d0 : Dev nD) : Nat :=
  let c0_i32_692 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_691 : BitVec 32 := 2#32
  let v693 : BitVec 32 := Scalar.muli v2 c2_i32_691
  let v694 : BitVec 32 := Scalar.addi c0_i32_692 v693
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_693 : BitVec 32 := 1#32
  let v695 : BitVec 32 := Scalar.muli v7 c1_i32_693
  let v696 : BitVec 32 := Scalar.addi v694 v695
  v696.toNat
def k0_dev31 (d0 : Dev nD) : Nat :=
  let c0_i32_719 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_718 : BitVec 32 := 2#32
  let v719 : BitVec 32 := Scalar.muli v2 c2_i32_718
  let v720 : BitVec 32 := Scalar.addi c0_i32_719 v719
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_720 : BitVec 32 := 1#32
  let v721 : BitVec 32 := Scalar.muli v7 c1_i32_720
  let v722 : BitVec 32 := Scalar.addi v720 v721
  v722.toNat
def k0_dev32 (d0 : Dev nD) : Nat :=
  let c0_i32_746 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_745 : BitVec 32 := 2#32
  let v745 : BitVec 32 := Scalar.muli v2 c2_i32_745
  let v746 : BitVec 32 := Scalar.addi c0_i32_746 v745
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_747 : BitVec 32 := 1#32
  let v747 : BitVec 32 := Scalar.muli v7 c1_i32_747
  let v748 : BitVec 32 := Scalar.addi v746 v747
  v748.toNat
def k0_dev33 (d0 : Dev nD) : Nat :=
  let c0_i32_773 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_772 : BitVec 32 := 2#32
  let v771 : BitVec 32 := Scalar.muli v2 c2_i32_772
  let v772 : BitVec 32 := Scalar.addi c0_i32_773 v771
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_774 : BitVec 32 := 1#32
  let v773 : BitVec 32 := Scalar.muli v7 c1_i32_774
  let v774 : BitVec 32 := Scalar.addi v772 v773
  v774.toNat
def k0_dev34 (d0 : Dev nD) : Nat :=
  let c0_i32_800 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_799 : BitVec 32 := 2#32
  let v797 : BitVec 32 := Scalar.muli v2 c2_i32_799
  let v798 : BitVec 32 := Scalar.addi c0_i32_800 v797
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_801 : BitVec 32 := 1#32
  let v799 : BitVec 32 := Scalar.muli v7 c1_i32_801
  let v800 : BitVec 32 := Scalar.addi v798 v799
  v800.toNat
def k0_cond2 (d0 : Dev nD) : BitVec 1 :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_225 : BitVec 32 := 1#32
  let v290 : BitVec 1 := Scalar.cmpi .eq v5 c1_i32_225
  let v293 : BitVec 32 := Scalar.extui v290
  let c0_i32_227 : BitVec 32 := 0#32
  let v294 : BitVec 1 := Scalar.cmpi .ne v293 c0_i32_227
  v294

def k0_dev35 (d0 : Dev nD) : Nat :=
  let c0_i32_394 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_393 : BitVec 32 := 2#32
  let v407 : BitVec 32 := Scalar.muli v2 c2_i32_393
  let v408 : BitVec 32 := Scalar.addi c0_i32_394 v407
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_395 : BitVec 32 := 1#32
  let v409 : BitVec 32 := Scalar.muli v7 c1_i32_395
  let v410 : BitVec 32 := Scalar.addi v408 v409
  v410.toNat
def k0_dev36 (d0 : Dev nD) : Nat :=
  let c0_i32_421 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_420 : BitVec 32 := 2#32
  let v433 : BitVec 32 := Scalar.muli v2 c2_i32_420
  let v434 : BitVec 32 := Scalar.addi c0_i32_421 v433
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_422 : BitVec 32 := 1#32
  let v435 : BitVec 32 := Scalar.muli v7 c1_i32_422
  let v436 : BitVec 32 := Scalar.addi v434 v435
  v436.toNat
def k0_dev37 (d0 : Dev nD) : Nat :=
  let c0_i32_448 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_447 : BitVec 32 := 2#32
  let v459 : BitVec 32 := Scalar.muli v2 c2_i32_447
  let v460 : BitVec 32 := Scalar.addi c0_i32_448 v459
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_449 : BitVec 32 := 1#32
  let v461 : BitVec 32 := Scalar.muli v7 c1_i32_449
  let v462 : BitVec 32 := Scalar.addi v460 v461
  v462.toNat
def k0_dev38 (d0 : Dev nD) : Nat :=
  let c0_i32_475 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_474 : BitVec 32 := 2#32
  let v485 : BitVec 32 := Scalar.muli v2 c2_i32_474
  let v486 : BitVec 32 := Scalar.addi c0_i32_475 v485
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_476 : BitVec 32 := 1#32
  let v487 : BitVec 32 := Scalar.muli v7 c1_i32_476
  let v488 : BitVec 32 := Scalar.addi v486 v487
  v488.toNat
def k0_dev39 (d0 : Dev nD) : Nat :=
  let c0_i32_502 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_501 : BitVec 32 := 2#32
  let v511 : BitVec 32 := Scalar.muli v2 c2_i32_501
  let v512 : BitVec 32 := Scalar.addi c0_i32_502 v511
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_503 : BitVec 32 := 1#32
  let v513 : BitVec 32 := Scalar.muli v7 c1_i32_503
  let v514 : BitVec 32 := Scalar.addi v512 v513
  v514.toNat
def k0_dev40 (d0 : Dev nD) : Nat :=
  let c0_i32_529 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_528 : BitVec 32 := 2#32
  let v537 : BitVec 32 := Scalar.muli v2 c2_i32_528
  let v538 : BitVec 32 := Scalar.addi c0_i32_529 v537
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_530 : BitVec 32 := 1#32
  let v539 : BitVec 32 := Scalar.muli v7 c1_i32_530
  let v540 : BitVec 32 := Scalar.addi v538 v539
  v540.toNat
def k0_dev41 (d0 : Dev nD) : Nat :=
  let c0_i32_556 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_555 : BitVec 32 := 2#32
  let v563 : BitVec 32 := Scalar.muli v2 c2_i32_555
  let v564 : BitVec 32 := Scalar.addi c0_i32_556 v563
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_557 : BitVec 32 := 1#32
  let v565 : BitVec 32 := Scalar.muli v7 c1_i32_557
  let v566 : BitVec 32 := Scalar.addi v564 v565
  v566.toNat
def k0_dev42 (d0 : Dev nD) : Nat :=
  let c0_i32_583 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_582 : BitVec 32 := 2#32
  let v589 : BitVec 32 := Scalar.muli v2 c2_i32_582
  let v590 : BitVec 32 := Scalar.addi c0_i32_583 v589
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_584 : BitVec 32 := 1#32
  let v591 : BitVec 32 := Scalar.muli v7 c1_i32_584
  let v592 : BitVec 32 := Scalar.addi v590 v591
  v592.toNat
def k0_dev43 (d0 : Dev nD) : Nat :=
  let c0_i32_610 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_609 : BitVec 32 := 2#32
  let v615 : BitVec 32 := Scalar.muli v2 c2_i32_609
  let v616 : BitVec 32 := Scalar.addi c0_i32_610 v615
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_611 : BitVec 32 := 1#32
  let v617 : BitVec 32 := Scalar.muli v7 c1_i32_611
  let v618 : BitVec 32 := Scalar.addi v616 v617
  v618.toNat
def k0_dev44 (d0 : Dev nD) : Nat :=
  let c0_i32_638 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_637 : BitVec 32 := 2#32
  let v641 : BitVec 32 := Scalar.muli v2 c2_i32_637
  let v642 : BitVec 32 := Scalar.addi c0_i32_638 v641
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_639 : BitVec 32 := 1#32
  let v643 : BitVec 32 := Scalar.muli v7 c1_i32_639
  let v644 : BitVec 32 := Scalar.addi v642 v643
  v644.toNat
def k0_dev45 (d0 : Dev nD) : Nat :=
  let c0_i32_665 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_664 : BitVec 32 := 2#32
  let v667 : BitVec 32 := Scalar.muli v2 c2_i32_664
  let v668 : BitVec 32 := Scalar.addi c0_i32_665 v667
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_666 : BitVec 32 := 1#32
  let v669 : BitVec 32 := Scalar.muli v7 c1_i32_666
  let v670 : BitVec 32 := Scalar.addi v668 v669
  v670.toNat
def k0_dev46 (d0 : Dev nD) : Nat :=
  let c0_i32_692 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_691 : BitVec 32 := 2#32
  let v693 : BitVec 32 := Scalar.muli v2 c2_i32_691
  let v694 : BitVec 32 := Scalar.addi c0_i32_692 v693
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_693 : BitVec 32 := 1#32
  let v695 : BitVec 32 := Scalar.muli v7 c1_i32_693
  let v696 : BitVec 32 := Scalar.addi v694 v695
  v696.toNat
def k0_dev47 (d0 : Dev nD) : Nat :=
  let c0_i32_719 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_718 : BitVec 32 := 2#32
  let v719 : BitVec 32 := Scalar.muli v2 c2_i32_718
  let v720 : BitVec 32 := Scalar.addi c0_i32_719 v719
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_720 : BitVec 32 := 1#32
  let v721 : BitVec 32 := Scalar.muli v7 c1_i32_720
  let v722 : BitVec 32 := Scalar.addi v720 v721
  v722.toNat
def k0_dev48 (d0 : Dev nD) : Nat :=
  let c0_i32_746 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_745 : BitVec 32 := 2#32
  let v745 : BitVec 32 := Scalar.muli v2 c2_i32_745
  let v746 : BitVec 32 := Scalar.addi c0_i32_746 v745
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_747 : BitVec 32 := 1#32
  let v747 : BitVec 32 := Scalar.muli v7 c1_i32_747
  let v748 : BitVec 32 := Scalar.addi v746 v747
  v748.toNat
def k0_dev49 (d0 : Dev nD) : Nat :=
  let c0_i32_773 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_772 : BitVec 32 := 2#32
  let v771 : BitVec 32 := Scalar.muli v2 c2_i32_772
  let v772 : BitVec 32 := Scalar.addi c0_i32_773 v771
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_774 : BitVec 32 := 1#32
  let v773 : BitVec 32 := Scalar.muli v7 c1_i32_774
  let v774 : BitVec 32 := Scalar.addi v772 v773
  v774.toNat
def k0_dev50 (d0 : Dev nD) : Nat :=
  let c0_i32_800 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_799 : BitVec 32 := 2#32
  let v797 : BitVec 32 := Scalar.muli v2 c2_i32_799
  let v798 : BitVec 32 := Scalar.addi c0_i32_800 v797
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_801 : BitVec 32 := 1#32
  let v799 : BitVec 32 := Scalar.muli v7 c1_i32_801
  let v800 : BitVec 32 := Scalar.addi v798 v799
  v800.toNat
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x1024 : Shape := ⟨2, ![2048, 1024]⟩
abbrev S2x1024x1024 : Shape := ⟨3, ![2, 1024, 1024]⟩
abbrev S_ : Shape := ⟨0, ![]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2x1024x1024, .bf16⟩
  | .hbm, ⟨2, _⟩ => ⟨S2x1024x1024, .f32⟩
  | .hbm, ⟨3, _⟩ => ⟨S_, .f32⟩
  | .hbm, ⟨4, _⟩ => ⟨S1024x1024, .f32⟩
  | .hbm, ⟨5, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.KernelIdeal.Chunked.lean ====
/-
The kernel's body read as loops over the sixteen chunks.

The printed function is one long straight line per mesh column. Here each kind of step is written once, with the
chunk number as a parameter, and `body_eq` states that the printed function is the same sequence of operations.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Regions
public import Idealize.ShloMosaic.Lib.Tactic

@[expose] public section

noncomputable section

namespace Cert.KernelIdeal.Exchange

open Cert.KernelIdeal Cert.KernelIdeal.Gen
open Idealize.ShloMosaic Idealize.ShloMosaic.TcCoe Idealize.SL.Sem

variable {F : FTy → Type} [FloatOps F]

/-- A program of the kernel's core, as the body's steps are. -/
abbrev Step (F : FTy → Type) : Type 1 := Prog (TpuEff nD τ sig (Elt F) Λ₀ .tc) PUnit

/-! ## The buffers and the rectangles of chunk `k` -/

abbrev xM : Memref sig .tc .vmem S1024x512 .bf16 := Memref.whole cc0_stg0_0
abbrev oM : Memref sig .tc .vmem S1024x1024 .bf16 := Memref.whole cc0_stg1_0
abbrev sM : Memref sig .tc .vmem S16x64x512 .bf16 := Memref.whole cc0_scratch0
abbrev rM : Memref sig .tc .vmem S16x64x512 .bf16 := Memref.whole cc0_scratch1

theorem inbX (k : Fin 16) : ∀ a, (![64 * k.val, 0] : Fin 2 → Nat) a + S64x512.size a ≤ S1024x512.size a := by
  revert k; decide
theorem inbB (k : Fin 16) : ∀ a, (![k.val, 0, 0] : Fin 3 → Nat) a + S1x64x512.size a ≤ S16x64x512.size a := by
  revert k; decide
theorem inbO (h : Fin 2) (k : Fin 16) : ∀ a, (![64 * k.val, 512 * h.val] : Fin 2 → Nat) a + S64x512.size a ≤ S1024x1024.size a := by
  revert h k; decide
theorem inbS (k : Fin 16) : ∀ a, (![k.val] : Fin 1 → Nat) a + S1.size a ≤ S16.size a := by
  revert k; decide

/-- Rows `64 k … 64 k + 63` of the device's block of `x`. -/
abbrev rX (k : Fin 16) : Rect S1024x512 := Rect.unit (s := S1024x512) ![64 * k.val, 0] S64x512.size (inbX k)
/-- Slot `k` of a buffer of sixteen chunks. -/
abbrev rB (k : Fin 16) : Rect S16x64x512 := Rect.unit (s := S16x64x512) ![k.val, 0, 0] S1x64x512.size (inbB k)
/-- Rows `64 k … 64 k + 63` of column half `h` of the result. -/
abbrev rO (h : Fin 2) (k : Fin 16) : Rect S1024x1024 := Rect.unit (s := S1024x1024) ![64 * k.val, 512 * h.val] S64x512.size (inbO h k)

theorem packedB (k : Fin 16) : (rB k).PackedRows (EltTy.packing .bf16) := by revert k; decide
theorem wordsB (k : Fin 16) : (rB k).WholeWords (EltTy.packing .bf16) := by revert k; decide
theorem packedO (h : Fin 2) (k : Fin 16) : (rO h k).PackedRows (EltTy.packing .bf16) := by revert h k; decide
theorem wordsO (h : Fin 2) (k : Fin 16) : (rO h k).WholeWords (EltTy.packing .bf16) := by revert h k; decide

/-- Slot `k` of the send buffer, of the receive buffer, as a transfer names it; the result's piece. -/
abbrev sP (k : Fin 16) : Memref sig .tc .vmem S64x512 .bf16 := (sM.slice (rB k) (fun _ => rfl)).squeeze S64x512 squeezes_S1x64x512_S64x512
abbrev rP (k : Fin 16) : Memref sig .tc .vmem S64x512 .bf16 := (rM.slice (rB k) (fun _ => rfl)).squeeze S64x512 squeezes_S1x64x512_S64x512
abbrev oP (h : Fin 2) (k : Fin 16) : Memref sig .tc .vmem S64x512 .bf16 := oM.slice (rO h k) (fun _ => rfl)

theorem wsP (k : Fin 16) : (sP k).view.WordExact := ((Memref.isWhole_whole cc0_scratch0).wordExact_slice rfl _ (wordsB k)).reshape _ _
theorem wrP (k : Fin 16) : (rP k).view.WordExact := ((Memref.isWhole_whole cc0_scratch1).wordExact_slice rfl _ (wordsB k)).reshape _ _
theorem woP (h : Fin 2) (k : Fin 16) : (oP h k).view.WordExact := (Memref.isWhole_whole cc0_stg1_0).wordExact_slice rfl _ (wordsO h k)

/-- Semaphore `k` of an array of sixteen, as the program reaches it. -/
abbrev semAt (a : DmaSems sig S16) (k : Fin 16) : DmaSem sig :=
  ((a.slice (Rect.unit (s := S16) ![k.val] S1.size (inbS k))).squeeze S_ squeezes_S1_S_).sem

/-- The runtime's barrier semaphore. -/
abbrev barS : Sem sig := (SemArray.scalar (sig.barrier 0 rfl) : Sems sig S_).sem

/-! ## The steps -/

/-- Copy chunk `k` of the block into the send buffer. -/
def stage (k : Fin 16) : Step F := do
  let v : Vec F S64x512 .bf16 ← Prog.lift (.load xM (rX k).toLoadRect (View.loadsAt_vmem h_S64x512))
  let _ : Vec F S1x64x512 .bf16 ← Prog.lift (.load sM (rB k).toLoadRect (View.loadsAt_vmem h_S1x64x512))
  Prog.lift (.store sM (rB k) (shapeCast S1x64x512 (shapeCast S64x512 v shapeCasts_S64x512_S64x512) shapeCasts_S64x512_S1x64x512) Finset.univ
    (View.stores_vmem h_S1x64x512 ((Memref.isWhole_whole cc0_scratch0).storeExact_slice rfl _ (packedB k)) (fun _ => rfl)) (.inl rfl))

/-- Send chunk `k` to the device in the other mesh row. -/
def sendX (d : Dev nD) (k : Fin 16) : Step F :=
  Prog.lift (.enqueueDma (sP k) (.remote (Dev.tc (⟨k0_dev1 d, k0_dev1_lt d⟩ : Dev nD)) (rP k) (.dma (semAt cc0_scratch2 k)))
    (.dma (semAt cc0_scratch3 k)) (wsP k) (wrP k) ⟨⟨rfl, Or.inl rfl⟩, trivial⟩)

/-- Add the received chunk `k` to the own one into the result's piece in half `h`, and send that piece on to the device in
    the other mesh column. -/
def sumSend (h : Fin 2) (d : Dev nD) (k : Fin 16) : Step F := do
  Prog.lift (.waitDma2 (semAt cc0_scratch3 k) (sP k) (rP k) (wsP k) (wrP k))
  let v : Vec F S1x64x512 .bf16 ← Prog.lift (.load sM (rB k).toLoadRect (View.loadsAt_vmem h_S1x64x512))
  let w : Vec F S1x64x512 .bf16 ← Prog.lift (.load rM (rB k).toLoadRect (View.loadsAt_vmem h_S1x64x512))
  let _ : Vec F S64x512 .bf16 ← Prog.lift (.load oM (rO h k).toLoadRect (View.loadsAt_vmem h_S64x512))
  Prog.lift (.store oM (rO h k) (addf (shapeCast S64x512 v shapeCasts_S1x64x512_S64x512) (shapeCast S64x512 w shapeCasts_S1x64x512_S64x512)) Finset.univ
    (View.stores_vmem h_S64x512 ((Memref.isWhole_whole cc0_stg1_0).storeExact_slice rfl _ (packedO h k)) (fun _ => rfl)) (.inl rfl))
  Prog.lift (.enqueueDma (oP h k) (.remote (Dev.tc (⟨k0_dev2 d, k0_dev2_lt d⟩ : Dev nD)) (oP h k) (.dma (semAt cc0_scratch4 k)))
    (.dma (semAt cc0_scratch5 k)) (woP h k) (woP h k) ⟨⟨rfl, Or.inl rfl⟩, trivial⟩)

/-- Wait for piece `k` to arrive from the other mesh column, and for the own piece `k` to have left. -/
def finishY (h : Fin 2) (k : Fin 16) : Step F := do
  Prog.lift (.waitDma2 (semAt cc0_scratch5 k) (oP h k) (oP h k) (woP h k) (woP h k))
  Prog.lift (.waitDma2 (semAt cc0_scratch4 k) (oP h k) (oP h k) (woP h k) (woP h k))

/-- Wait for chunk `k` to have left the send buffer. -/
def finishX (k : Fin 16) : Step F :=
  Prog.lift (.waitDma2 (semAt cc0_scratch2 k) (rP k) (sP k) (wrP k) (wsP k))

/-! ## The loops -/

/-- A step for each chunk of a list, in order. -/
def loop (f : Fin 16 → Step F) : List (Fin 16) → Step F
  | [] => pure ⟨⟩
  | k :: l => f k >>= fun _ => loop f l

/-- The sixteen chunks, in order. -/
abbrev allK : List (Fin 16) := [0, 1, 2, 3, 4, 5, 6, 7, 8, 9, 10, 11, 12, 13, 14, 15]
abbrev tailK : List (Fin 16) := [1, 2, 3, 4, 5, 6, 7, 8, 9, 10, 11, 12, 13, 14, 15]

/-- The handshake with the two neighbours, then every chunk sent along the mesh's first axis. -/
def phaseX (d : Dev nD) : Step F := do
  stage 0
  semSignalWord (⟨k0_dev1 d, k0_dev1_lt d⟩ : Dev nD) barS 1#32
  semSignalWord (⟨k0_dev2 d, k0_dev2_lt d⟩ : Dev nD) barS 1#32
  semWaitWord barS 2#32
  sendX d 0
  loop (fun k => stage k >>= fun _ => sendX d k) tailK

/-- The sums into half `h` and their exchange along the mesh's second axis. -/
def phaseY (h : Fin 2) (d : Dev nD) : Step F := do
  loop (sumSend h d) allK
  loop (finishY h) allK

/-- The two branches on the mesh column, of which each device takes one, and the first three waits after them. -/
def middle (d : Dev nD) : Step F := do
  if h1 : k0_cond1 d = 1#1 then phaseY 0 d else pure ⟨⟩
  if h2 : k0_cond2 d = 1#1 then phaseY 1 d else pure ⟨⟩
  loop finishX [0, 1, 2]

/-- The whole body on device `d`. -/
def chunked (d : Dev nD) : Step F := do
  phaseX d
  middle d
  loop finishX [3, 4, 5, 6, 7, 8, 9, 10, 11, 12, 13, 14, 15]

theorem part57_eq (d : Dev nD) (v2 v5 v6 v7 : BitVec 32) (v289 : BitVec 1) (c1 : BitVec 32) :
    k0_part57 (F := F) xM (Memref.isWhole_whole _) oM (Memref.isWhole_whole _) sM (Memref.isWhole_whole _) rM (Memref.isWhole_whole _)
      cc0_scratch2 cc0_scratch3 cc0_scratch4 cc0_scratch5 d v2 v5 v6 v7 v289 c1 = middle d := by
  chain_rfl

/-- The printed function is the chunked one. -/
theorem body_eq :
    cc0_body (F := F) xM (Memref.isWhole_whole _) oM (Memref.isWhole_whole _) sM (Memref.isWhole_whole _) rM (Memref.isWhole_whole _)
      cc0_scratch2 cc0_scratch3 cc0_scratch4 cc0_scratch5 = .op .deviceId (fun d => chunked d) := by
  chain_rfl

end Cert.KernelIdeal.Exchange

end
-- ==== Proof.KernelIdeal.Pieces.lean ====
/-
The pieces of the buffers, and what they hold.

The send and receive buffers are cut into their sixteen slots, the result into the sixteen row blocks of each of its two
column halves. `XS c` is what device `c`'s send buffer holds once every chunk is staged; `OUT c` is what its result holds
in the end. Both are put together from the values the program's own operations compute, piece by piece.
-/
module

public import proofs.«01_k».proof.Proof.KernelIdeal.Chunked
public import Idealize.ShloMosaic.Lib.Pipeline.Launch
public import Idealize.ShloMosaic.Lib.Pipeline.Kit

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The mesh -/

/-- The device in the other mesh row, same column. -/
def xn (c : Dev nD) : Dev nD := ⟨(c.val % 2 + 2) - 2 * (c.val / 2), by have := c.isLt; simp only [nD] at *; omega⟩
/-- The device in the other mesh column, same row. -/
def yn (c : Dev nD) : Dev nD := ⟨(2 * (c.val / 2) + 1) - c.val % 2, by have := c.isLt; simp only [nD] at *; omega⟩
/-- The device in column `h` of `c`'s row. -/
def col (c : Dev nD) (h : Fin 2) : Dev nD := ⟨2 * (c.val / 2) + h.val, by have := c.isLt; have := h.isLt; simp only [nD] at *; omega⟩
/-- The device's own column. -/
def half (c : Dev nD) : Fin 2 := ⟨c.val % 2, Nat.mod_lt _ (by decide)⟩

theorem xn_xn (c : Dev nD) : xn (xn c) = c := by revert c; decide
theorem yn_yn (c : Dev nD) : yn (yn c) = c := by revert c; decide
theorem xn_ne (c : Dev nD) : xn c ≠ c := by revert c; decide
theorem yn_ne (c : Dev nD) : yn c ≠ c := by revert c; decide
theorem col_half (c : Dev nD) : col c (half c) = c := by revert c; decide
theorem col_half_yn (c : Dev nD) : col c (half (yn c)) = yn c := by revert c; decide
theorem col_yn (c : Dev nD) : col (yn c) = col c := by revert c; decide
theorem half_ne (c : Dev nD) : half c ≠ half (yn c) := by revert c; decide
theorem dev1_eq (c : Dev nD) : (⟨k0_dev1 c, k0_dev1_lt c⟩ : Dev nD) = xn c := Fin.ext (k0_dev1_eq c)
theorem dev2_eq (c : Dev nD) : (⟨k0_dev2 c, k0_dev2_lt c⟩ : Dev nD) = yn c := Fin.ext (k0_dev2_eq c)
theorem cond1_iff (c : Dev nD) : k0_cond1 c = 1#1 ↔ half c = 0 := by revert c; decide
theorem cond2_iff (c : Dev nD) : k0_cond2 c = 1#1 ↔ half c = 1 := by revert c; decide

/-- Crossing to the other row, as a permutation of the devices. -/
def xnEquiv : Dev nD ≃ Dev nD := ⟨xn, xn, xn_xn, xn_xn⟩
/-- Crossing to the other column, as a permutation of the devices. -/
def ynEquiv : Dev nD ≃ Dev nD := ⟨yn, yn, yn_yn, yn_yn⟩

/-! ## The pieces are disjoint and cover -/

theorem disjB (k k' : Fin 16) (h : k ≠ k') : Disjoint (rB k).set (rB k').set := by
  refine Rect.unit_disjoint (0 : Fin 3) ?_
  have : k.val ≠ k'.val := fun e => h (Fin.ext e)
  show k.val + 1 ≤ k'.val ∨ k'.val + 1 ≤ k.val
  omega

theorem covB : (Finset.univ : Finset (Fin 16)).biUnion (fun k => (rB k).set) = Finset.univ := by
  ext i
  simp only [Finset.mem_biUnion, Finset.mem_univ, true_and, iff_true]
  refine ⟨⟨(i 0).val, (i 0).isLt⟩, Rect.mem_set_unit.mpr (Fin.forall_fin_succ.mpr ⟨⟨le_rfl, Nat.lt_succ_self _⟩, Fin.forall_fin_two.mpr ⟨⟨Nat.zero_le _, ?_⟩, ⟨Nat.zero_le _, ?_⟩⟩⟩)⟩
  · exact (i 1).isLt
  · exact (i 2).isLt

theorem disjO (p p' : Fin 2 × Fin 16) (h : p ≠ p') : Disjoint (rO p.1 p.2).set (rO p'.1 p'.2).set := by
  by_cases hk : p.2.val = p'.2.val
  · refine Rect.unit_disjoint (1 : Fin 2) ?_
    have : p.1.val ≠ p'.1.val := fun e => h (Prod.ext (Fin.ext e) (Fin.ext hk))
    show 512 * p.1.val + 512 ≤ 512 * p'.1.val ∨ 512 * p'.1.val + 512 ≤ 512 * p.1.val
    omega
  · refine Rect.unit_disjoint (0 : Fin 2) ?_
    show 64 * p.2.val + 64 ≤ 64 * p'.2.val ∨ 64 * p'.2.val + 64 ≤ 64 * p.2.val
    omega

theorem covO : (Finset.univ : Finset (Fin 2 × Fin 16)).biUnion (fun p => (rO p.1 p.2).set) = Finset.univ := by
  ext i
  simp only [Finset.mem_biUnion, Finset.mem_univ, true_and, iff_true]
  have h0 : (i 0).val < 1024 := (i 0).isLt
  have h1 : (i 1).val < 1024 := (i 1).isLt
  refine ⟨(⟨(i 1).val / 512, by omega⟩, ⟨(i 0).val / 64, by omega⟩), Rect.mem_set_unit.mpr (Fin.forall_fin_two.mpr ⟨?_, ?_⟩)⟩
  · show 64 * ((i 0).val / 64) ≤ (i 0).val ∧ (i 0).val < 64 * ((i 0).val / 64) + 64
    omega
  · show 512 * ((i 1).val / 512) ≤ (i 1).val ∧ (i 1).val < 512 * ((i 1).val / 512) + 512
    omega

/-! ## The views' element sets -/

theorem set_sP (k : Fin 16) : (sP k).view.set = (rB k).set := by
  show (((View.whole cc0_scratch0).slice (rB k)).reshape _ _).set = _
  rw [View.set_reshape, View.set_slice_whole]
theorem set_rP (k : Fin 16) : (rP k).view.set = (rB k).set := by
  show (((View.whole cc0_scratch1).slice (rB k)).reshape _ _).set = _
  rw [View.set_reshape, View.set_slice_whole]
theorem set_oP (h : Fin 2) (k : Fin 16) : (oP h k).view.set = (rO h k).set := View.set_slice_whole _ _

/-- A store into a rectangle of a whole buffer leaves there the values written. -/
theorem store_at {b : Ref sig .tc} (r : Rect b.ty.shape) (f : b.ty.Contents (Elt F)) (w : r.shape.Idx → Elt F b.ty.elt)
    (G : b.ty.Contents (Elt F)) (hG : ∀ x, G (r.emb x) = w x) :
    ∀ i ∈ r.set, ((View.whole b).slice r).write (Elt F) f w Finset.univ i = G i := by
  intro i hi
  rw [← Rect.map_emb_univ, Finset.mem_map] at hi
  obtain ⟨x, -, rfl⟩ := hi
  exact (View.write_emb_of_mem (v := (View.whole b).slice r) f w (Finset.mem_univ x)).trans (hG x).symm

/-- A chunk sent arrives as it left: slot `k` of the receive buffer then holds what slot `k` of the send buffer held. -/
theorem sent_at (k : Fin 16) (fd : (cc0_scratch1 : Ref sig .tc).ty.Contents (Elt F)) (fs : (cc0_scratch0 : Ref sig .tc).ty.Contents (Elt F)) :
    ∀ i ∈ (rB k).set, (rP k).view.write (Elt F) fd ((sP k).view.read (Elt F) fs) Finset.univ i = fs i := by
  intro i hi
  rw [← set_rP k, View.set, Finset.mem_map] at hi
  obtain ⟨x, -, rfl⟩ := hi
  exact View.write_emb_of_mem (v := (rP k).view) fd _ (Finset.mem_univ x)

/-- A piece of the result sent arrives as it left. -/
theorem piece_at (h : Fin 2) (k : Fin 16) (fd fs : (cc0_stg1_0 : Ref sig .tc).ty.Contents (Elt F)) :
    ∀ i ∈ (rO h k).set, (oP h k).view.write (Elt F) fd ((oP h k).view.read (Elt F) fs) Finset.univ i = fs i := by
  intro i hi
  rw [← set_oP h k, View.set, Finset.mem_map] at hi
  obtain ⟨x, -, rfl⟩ := hi
  exact View.write_emb_of_mem (v := (oP h k).view) fd _ (Finset.mem_univ x)

/-! ## What the buffers hold -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- Device `c`'s block of `x`, as staged for the kernel. -/
def xstg (c : Dev nD) : (cc0_stg0_0 : Ref sig .tc).ty.Contents (Elt F) :=
  (win0_0.blk (0 : Fin 1)).view.read (Elt F) ((s₀ m ρ).mem ((c : Thread nD τ).loc main_arg0))

/-- Chunk `k` of device `c`'s block, in the shape of a slot. -/
def staged (c : Dev nD) (k : Fin 16) : Vec F S1x64x512 .bf16 :=
  shapeCast S1x64x512 (shapeCast S64x512 ((xM.view.readAt (Elt F) (rX k).toLoadRect (xstg m ρ c) : Vec F S64x512 .bf16)) shapeCasts_S64x512_S64x512) shapeCasts_S64x512_S1x64x512

/-- The send buffer of device `c` with every chunk staged. -/
def XS (c : Dev nD) : S16x64x512.Idx → Elt F .bf16 := Rect.glue rB covB (fun k => staged m ρ c k)

theorem XS_emb (c : Dev nD) (k : Fin 16) (x : S1x64x512.Idx) : XS m ρ c ((rB k).emb x) = staged m ρ c k x :=
  Rect.glue_emb rB covB disjB (fun k => staged m ρ c k) k x

/-- The sum device `d` computes for rows of chunk `k`: its own chunk plus the one received from the other row. -/
def sumC (d : Dev nD) (k : Fin 16) : Vec F S64x512 .bf16 :=
  addf (shapeCast S64x512 (sM.view.readAt (Elt F) (rB k).toLoadRect (XS m ρ d) : Vec F S1x64x512 .bf16) shapeCasts_S1x64x512_S64x512)
    (shapeCast S64x512 (rM.view.readAt (Elt F) (rB k).toLoadRect (XS m ρ (xn d)) : Vec F S1x64x512 .bf16) shapeCasts_S1x64x512_S64x512)

/-- The result on device `c`: in column half `h` the sums of the device of its row in column `h`. -/
def OUT (c : Dev nD) : S1024x1024.Idx → Elt F .bf16 :=
  Rect.glue (fun p : Fin 2 × Fin 16 => rO p.1 p.2) covO (fun p => sumC m ρ (col c p.1) p.2)

theorem OUT_emb (c : Dev nD) (h : Fin 2) (k : Fin 16) (x : S64x512.Idx) : OUT m ρ c ((rO h k).emb x) = sumC m ρ (col c h) k x :=
  Rect.glue_emb (fun p : Fin 2 × Fin 16 => rO p.1 p.2) covO disjO (fun p => sumC m ρ (col c p.1) p.2) (h, k) x

/-- The devices of a row end with the same result. -/
theorem OUT_yn (c : Dev nD) : OUT m ρ (yn c) = OUT m ρ c := by
  unfold OUT; rw [col_yn]

end Cert.KernelIdeal.Exchange

end
-- ==== Proof.KernelIdeal.Protocol.lean ====
/-
The protocol of the exchange: which counter stands for what.

Each device has one barrier counter and four arrays of sixteen transfer counters: chunk `k` has left for the other row,
chunk `k` has come from the other row, piece `k` has left for the other column, piece `k` has come from the other column.
Every counter is raised and waited for in one round only. What a counter's raise hands over is its payload: the barrier's
two raises hand over the buffers the neighbours are going to write into, a departure counter gives back what was being read,
and an arrival counter gives what has been written.
-/
module

public import proofs.«01_k».proof.Proof.KernelIdeal.Pieces

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The counters -/

/-- The four arrays of transfer counters: 0 chunk left, 1 chunk came, 2 piece left, 3 piece came. -/
def dsem : Fin 4 × Fin 16 → DmaSem sig := fun p => match p.1 with
  | 0 => semAt cc0_scratch2 p.2
  | 1 => semAt cc0_scratch3 p.2
  | 2 => semAt cc0_scratch4 p.2
  | 3 => semAt cc0_scratch5 p.2

/-- Which counter of the four arrays a transfer semaphore is, if any. -/
def slotOf (q : DmaSem sig) : Option (Fin 4 × Fin 16) :=
  if h : 2 ≤ q.val ∧ q.val < 66 then some (⟨(q.val - 2) / 16, by omega⟩, ⟨(q.val - 2) % 16, by omega⟩) else none

theorem slotOf_dsem (p : Fin 4 × Fin 16) : slotOf (dsem p) = some p := by revert p; decide

theorem dsem_injective : Function.Injective dsem := fun p p' h =>
  Option.some.inj ((slotOf_dsem p).symm.trans ((congrArg slotOf h).trans (slotOf_dsem p')))

/-- All counters of a device: the barrier's, and the transfers'. -/
def csem : Option (Fin 4 × Fin 16) → SemLoc sig
  | none => .reg barS
  | some p => .dma (dsem p)

theorem csem_injective : Function.Injective csem := by
  rintro (_ | p) (_ | p') h
  · rfl
  · cases h
  · cases h
  · exact congrArg some (dsem_injective (SemLoc.dma.inj h))

abbrev kcell (ck : Dev nD × Option (Fin 4 × Fin 16)) : GSem nD τ sig := ((ck.1 : Thread nD τ), csem ck.2)
abbrev barCell (c : Dev nD) : GSem nD τ sig := ((c : Thread nD τ), .reg barS)
abbrev cell (p : Fin 4 × Fin 16) (c : Dev nD) : GSem nD τ sig := ((c : Thread nD τ), .dma (dsem p))

theorem kcell_injective : Function.Injective (kcell : Dev nD × Option (Fin 4 × Fin 16) → GSem nD τ sig) := by
  rintro ⟨c, k⟩ ⟨c', k'⟩ h
  have h1 : c = c' := congrArg (fun g : GSem nD τ sig => g.1.1) h
  have h2 : k = k' := csem_injective (congrArg Prod.snd h)
  rw [h1, h2]

theorem barCell_inj {a b : Dev nD} : barCell a = barCell b ↔ a = b :=
  ⟨fun h => congrArg (fun g : GSem nD τ sig => g.1.1) h, fun h => h ▸ rfl⟩
theorem cell_inj {p p' : Fin 4 × Fin 16} {a b : Dev nD} : cell p a = cell p' b ↔ p = p' ∧ a = b :=
  ⟨fun h => ⟨dsem_injective (SemLoc.dma.inj (congrArg Prod.snd h)), congrArg (fun g : GSem nD τ sig => g.1.1) h⟩,
    fun h => by rw [h.1, h.2]⟩
theorem cell_ne_bar (p : Fin 4 × Fin 16) (a b : Dev nD) : cell p a ≠ barCell b := fun h => by cases congrArg Prod.snd h

/-- The credit of one transfer; every transfer moves 64 × 512 elements. -/
def N : ℕ := (rP 0).view.dmaCredit
theorem N_pos : 0 < N := View.dmaCredit_pos _ (by decide)
theorem credit_rP (k : Fin 16) : (rP k).view.dmaCredit = N := rfl
theorem credit_sP (k : Fin 16) : (sP k).view.dmaCredit = N := rfl
theorem credit_oP (h : Fin 2) (k : Fin 16) : (oP h k).view.dmaCredit = N := rfl

/-! ## The pieces owned -/

/-- Slot `k` of device `c`'s send buffer, at share `q`, holding `f` there. -/
def sPts (c : Dev nD) (q : PosShare TreeShare) (k : Fin 16) (f : Buf (Elt F) ((c : Thread nD τ).loc cc0_scratch0)) : sProp 𝕄 :=
  ((c : Thread nD τ).loc cc0_scratch0) ↦[(rB k).set]{q} f
/-- Slot `k` of device `c`'s receive buffer. -/
def rPts (c : Dev nD) (k : Fin 16) (f : Buf (Elt F) ((c : Thread nD τ).loc cc0_scratch1)) : sProp 𝕄 :=
  ((c : Thread nD τ).loc cc0_scratch1) ↦[(rB k).set]{fullShare} f
/-- Piece `k` of half `h` of device `c`'s result. -/
def oPts (c : Dev nD) (h : Fin 2) (k : Fin 16) (f : Buf (Elt F) ((c : Thread nD τ).loc cc0_stg1_0)) : sProp 𝕄 :=
  ((c : Thread nD τ).loc cc0_stg1_0) ↦[(rO h k).set]{fullShare} f

omit [FloatOps F] in
instance sPts_storable (c : Dev nD) (q) (k) (f) : BI.Storable (upEmb : UEmb _ 𝕄) (sPts (F := F) c q k f) := by unfold sPts; infer_instance
omit [FloatOps F] in
instance rPts_storable (c : Dev nD) (k) (f) : BI.Storable (upEmb : UEmb _ 𝕄) (rPts (F := F) c k f) := by unfold rPts; infer_instance
omit [FloatOps F] in
instance oPts_storable (c : Dev nD) (h) (k) (f) : BI.Storable (upEmb : UEmb _ 𝕄) (oPts (F := F) c h k f) := by unfold oPts; infer_instance

/-- A separating conjunction over a list of chunks. -/
def sepL (l : List (Fin 16)) (Φ : Fin 16 → sProp 𝕄) : sProp 𝕄 := match l with
  | [] => iprop(emp)
  | k :: l => iprop(Φ k ∗ sepL l Φ)

omit [FloatOps F] in
theorem sepL_toFinset (l : List (Fin 16)) (h : l.Nodup) (Φ : Fin 16 → sProp 𝕄) : bigSep l.toFinset Φ = sepL l Φ := by
  induction l with
  | nil => exact bigSep_empty
  | cons k l ih =>
    rw [List.toFinset_cons, bigSep_insert (fun hk => (List.nodup_cons.mp h).1 (List.mem_toFinset.mp hk)), ih (List.nodup_cons.mp h).2]
    rfl

omit [FloatOps F] in
theorem sepL_all (Φ : Fin 16 → sProp 𝕄) : bigSep Finset.univ Φ = sepL allK Φ := by
  rw [← sepL_toFinset allK (by decide)]; congr 1

instance sepL_storable (l : List (Fin 16)) (Φ : Fin 16 → sProp 𝕄) [∀ k, BI.Storable (upEmb : UEmb _ 𝕄) (Φ k)] :
    BI.Storable (upEmb : UEmb _ 𝕄) (sepL l Φ) := by
  induction l with
  | nil => unfold sepL; infer_instance
  | cons k l ih => unfold sepL; infer_instance

variable (m : (ℓ : Loc nD τ sig) → Buf (Elt F) ℓ) (ρ : Dev nD → PrngReg)

/-! ## The payloads -/

/-- What the neighbours' barrier raises hand device `c`: the row neighbour (`false`) its receive buffer, the column neighbour
    (`true`) the half of its result that `c` computes. -/
def barPay (c : Dev nD) (d : Bool) : sProp 𝕄 :=
  if d then sepL allK (fun k => iprop(∃ f, oPts (yn c) (half c) k f)) else sepL allK (fun k => iprop(∃ f, rPts (xn c) k f))

/-- What a transfer's counter hands device `c`. -/
def dmaPay (c : Dev nD) : Fin 4 × Fin 16 → sProp 𝕄 := fun p => match p.1 with
  | 0 => sPts c fullShare.left p.2 (XS m ρ c)
  | 1 => rPts c p.2 (XS m ρ (xn c))
  | 2 => oPts c (half c) p.2 (OUT m ρ c)
  | 3 => oPts c (half (yn c)) p.2 (OUT m ρ c)

omit [FloatOps F] in
instance barPay_storable (c : Dev nD) (d : Bool) : BI.Storable (upEmb : UEmb _ 𝕄) (barPay (F := F) c d) := by
  unfold barPay; split <;> infer_instance
instance dmaPay_storable (c : Dev nD) (p) : BI.Storable (upEmb : UEmb _ 𝕄) (dmaPay m ρ c p) := by
  unfold dmaPay; split <;> infer_instance

/-! ## The schedule -/

/-- What one raise of a counter adds. -/
def amt : SemLoc sig → ℕ
  | .reg _ => 1
  | .dma _ => N
theorem amt_pos (s : SemLoc sig) : 0 < amt s := by
  cases s
  · exact Nat.one_pos
  · exact N_pos

/-- One round, round 0: a barrier counter has the two duties `false` (from the row neighbour) and `true` (from the column
    neighbour) of one unit each; a transfer's counter the duty `false` of its credit. -/
def Rd : Rounds.Schedule (GSem nD τ sig) Bool 𝕄 where
  duties g r := if r = 0 ∧ g.1.2 = .tc then (match g.2 with
    | .reg s => if s = barS then Finset.univ else ∅
    | .dma q => if (slotOf q).isSome then {false} else ∅) else ∅
  unitless _ := False
  amount g _ _ := amt g.2
  payload g _ d := match g.2 with
    | .reg _ => barPay g.1.1 d
    | .dma q => match slotOf q with | some p => dmaPay m ρ g.1.1 p | none => iprop(emp)
  amount_pos g _ _ _ := amt_pos g.2

instance Rd_storable (g : GSem nD τ sig) (r : ℕ) (d : Bool) : BI.Storable (upEmb : UEmb _ 𝕄) ((Rd (F := F) m ρ).payload g r d) := by
  show BI.Storable upEmb (match g.2 with
    | .reg _ => barPay g.1.1 d
    | .dma q => match slotOf q with | some p => dmaPay m ρ g.1.1 p | none => iprop(emp))
  split
  · infer_instance
  · split <;> infer_instance

section Sched
variable (c : Dev nD) (p : Fin 4 × Fin 16)

theorem duties_bar : (Rd (F := F) m ρ).duties (barCell c) 0 = Finset.univ := by
  dsimp only [Rd]; rw [if_pos ⟨rfl, rfl⟩, if_pos rfl]
theorem duties_cell : (Rd (F := F) m ρ).duties (cell p c) 0 = {false} := by
  dsimp only [Rd]; rw [if_pos ⟨rfl, rfl⟩, slotOf_dsem]; rfl
theorem duties_later (g : GSem nD τ sig) : ∀ r, 1 ≤ r → (Rd (F := F) m ρ).duties g r = ∅ :=
  fun r hr => by dsimp only [Rd]; rw [if_neg fun h => by omega]
theorem amount_bar (d : Bool) : (Rd (F := F) m ρ).amount (barCell c) 0 d = 1 := rfl
theorem amount_cell (d : Bool) : (Rd (F := F) m ρ).amount (cell p c) 0 d = N := rfl
theorem expect_bar : (Rd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_cell : (Rd (F := F) m ρ).expect (cell p c) 0 = N := by
  unfold Schedule.expect Schedule.amountOf; rw [duties_cell, Finset.sum_singleton, amount_cell]
theorem payload_bar (d : Bool) : (Rd (F := F) m ρ).payload (barCell c) 0 d = barPay c d := rfl
theorem payload_cell (d : Bool) : (Rd (F := F) m ρ).payload (cell p c) 0 d = dmaPay m ρ c p := by
  dsimp only [Rd]; rw [slotOf_dsem]

/-- Both barrier payloads, no duty taken before. -/
theorem rest_bar : bigSep ((Rd (F := F) m ρ).duties (barCell c) 0 \ ∅) (fun d => (Rd (F := F) m ρ).payload (barCell c) 0 d)
    = iprop(barPay c false ∗ barPay c true) := by
  rw [Finset.sdiff_empty, duties_bar, bigSep_univ_eq_bigSepL [false, true] (by decide) (by decide)]; rfl
theorem rest_cell : bigSep ((Rd (F := F) m ρ).duties (cell p c) 0 \ ∅) (fun d => (Rd (F := F) m ρ).payload (cell p c) 0 d)
    = dmaPay m ρ c p := by
  rw [Finset.sdiff_empty, duties_cell, bigSep_singleton, payload_cell]

end Sched

/-! ## What each device owes; the levels -/

/-- Device `c` owes its row neighbour the arrivals of the chunks of a list, -/
def owX (c : Dev nD) : List (Fin 16) → CellTallies nD τ sig Unit
  | [] => 0
  | k :: l => owX c l + tallyAt (cell (1, k) (xn c)) () N
/-- and its column neighbour the arrivals of the pieces of a list. -/
def owY (c : Dev nD) : List (Fin 16) → CellTallies nD τ sig Unit
  | [] => 0
  | k :: l => owY c l + tallyAt (cell (3, k) (yn c)) () N

/-- What device `c` owes after the handshake. -/
def O₂ (c : Dev nD) : CellTallies nD τ sig Unit := owY c allK + owX c allK
def O₁ (c : Dev nD) : CellTallies nD τ sig Unit := O₂ c + tallyAt (barCell (yn c)) () 1
/-- What device `c` owes at launch: every arrival and a unit to each neighbour's barrier counter. -/
def O₀ (c : Dev nD) : CellTallies nD τ sig Unit := O₁ c + tallyAt (barCell (xn c)) () 1

def L (g : GSem nD τ sig) : Finset Unit := if g.1.2 = .tc then {()} else ∅
/-- The barrier at 1, a chunk's arrival at 2, a piece's arrival at 3, everything else at 0. -/
def lv (g : GSem nD τ sig) (_ : Unit) : ℕ := match g.2 with
  | .reg _ => 1
  | .dma q => match slotOf q with | some p => (match p.1 with | 1 => 2 | 3 => 3 | _ => 0) | none => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := rfl
theorem lv_one (k : Fin 16) (c : Dev nD) : lv (cell (1, k) c) () = 2 := by simp only [lv, slotOf_dsem]
theorem lv_three (k : Fin 16) (c : Dev nD) : lv (cell (3, k) c) () = 3 := by simp only [lv, slotOf_dsem]

theorem owX_pos {c : Dev nD} {l : List (Fin 16)} {g : GSem nD τ sig} {u : Unit} (h : 0 < owX c l g u) : ∃ k, g = cell (1, k) (xn c) := by
  induction l with
  | nil => exact absurd h (Nat.lt_irrefl 0)
  | cons k l ih =>
    unfold owX at h
    rw [Pi.add_apply, Finsupp.add_apply, tallyAt_apply] at h
    by_cases hg : g = cell (1, k) (xn c) ∧ u = ()
    · exact ⟨k, hg.1⟩
    · rw [if_neg hg] at h; exact ih h

theorem owY_pos {c : Dev nD} {l : List (Fin 16)} {g : GSem nD τ sig} {u : Unit} (h : 0 < owY c l g u) : ∃ k, g = cell (3, k) (yn c) := by
  induction l with
  | nil => exact absurd h (Nat.lt_irrefl 0)
  | cons k l ih =>
    unfold owY at h
    rw [Pi.add_apply, Finsupp.add_apply, tallyAt_apply] at h
    by_cases hg : g = cell (3, k) (yn c) ∧ u = ()
    · exact ⟨k, hg.1⟩
    · rw [if_neg hg] at h; exact ih h

theorem O₂_pos {c : Dev nD} {g : GSem nD τ sig} {u : Unit} (h : 0 < O₂ c g u) :
    (∃ k, g = cell (1, k) (xn c)) ∨ ∃ k, g = cell (3, k) (yn c) := by
  unfold O₂ at h
  rw [Pi.add_apply, Finsupp.add_apply] at h
  rcases Nat.eq_zero_or_pos (owX c allK g u) with h0 | h0
  · rw [h0, Nat.add_zero] at h; exact Or.inr (owY_pos h)
  · exact Or.inl (owX_pos h0)

theorem O₀_pos {c : Dev nD} {g : GSem nD τ sig} {u : Unit} (h : 0 < O₀ c g u) :
    (∃ d, g = barCell d) ∨ (∃ k, g = cell (1, k) (xn c)) ∨ ∃ k, g = cell (3, k) (yn c) := by
  unfold O₀ O₁ at h
  rw [Pi.add_apply, Finsupp.add_apply, Pi.add_apply, Finsupp.add_apply, tallyAt_apply, tallyAt_apply] at h
  by_cases h1 : g = barCell (yn c) ∧ u = ()
  · exact Or.inl ⟨_, h1.1⟩
  by_cases h2 : g = barCell (xn c) ∧ u = ()
  · exact Or.inl ⟨_, h2.1⟩
  rw [if_neg h1, if_neg h2, Nat.add_zero] at h
  exact Or.inr (O₂_pos h)

omit [FloatOps F] in
/-- A device may wait on a counter of its own whose level is below that of everything it owes. -/
theorem mayWait_below (c : Dev nD) (sm : SemLoc sig) (n : ℕ) (hn : lv ((c : Thread nD τ), sm) () ≤ n) (O : CellTallies nD τ sig Unit)
    (hO : ∀ g u, 0 < O g u → (∃ (d : Dev nD) (s : SemLoc sig), g = ((d : Thread nD τ), s)) ∧ n < lv g u) :
    (levAts L lv : sProp 𝕄) ⊢ MayWait (c : Thread nD τ) sm () O :=
  MayOwe.of_cut (L := L) (lev := lv) n (fun q hq => by rw [Finset.mem_singleton.mp hq, L_tc]; exact Finset.mem_singleton_self _)
    (fun g u hg => by obtain ⟨⟨d, s, rfl⟩, -⟩ := hO g u hg; exact Finset.mem_singleton_self _)
    (fun q hq => by rw [Finset.mem_singleton.mp hq]; exact hn)
    (fun g u hg => (hO g u hg).2)

omit [FloatOps F] in
theorem mayWait_stage (c : Dev nD) (q : DmaSem sig) (hq : slotOf q = none) (O : CellTallies nD τ sig Unit) (hO : O = O₀ c ∨ O = 0) :
    (levAts L lv : sProp 𝕄) ⊢ MayWait (c : Thread nD τ) (.dma q) () O := by
  rcases hO with rfl | rfl
  · refine mayWait_below c _ 0 (by dsimp only [lv]; rw [hq]) _ fun g u hg => ?_
    cases u
    rcases O₀_pos hg with ⟨d, rfl⟩ | ⟨k, rfl⟩ | ⟨k, rfl⟩
    · exact ⟨⟨_, _, rfl⟩, by rw [lv_bar]; decide⟩
    · exact ⟨⟨_, _, rfl⟩, by rw [lv_one]; decide⟩
    · exact ⟨⟨_, _, rfl⟩, by rw [lv_three]; decide⟩
  · rw [MayWait_zero]; iintro -; iempintro

omit [FloatOps F] in
theorem mayWait_bar (c : Dev nD) : (levAts L lv : sProp 𝕄) ⊢ MayWait (c : Thread nD τ) (.reg barS) () (O₂ c) := by
  refine mayWait_below c _ 1 le_rfl _ fun g u hg => ?_
  cases u
  rcases O₂_pos hg with ⟨k, rfl⟩ | ⟨k, rfl⟩
  · exact ⟨⟨_, _, rfl⟩, by rw [lv_one]; decide⟩
  · exact ⟨⟨_, _, rfl⟩, by rw [lv_three]; decide⟩

omit [FloatOps F] in
theorem mayWait_came (c : Dev nD) (k : Fin 16) (l : List (Fin 16)) :
    (levAts L lv : sProp 𝕄) ⊢ MayWait (c : Thread nD τ) (.dma (dsem (1, k))) () (owY c l) := by
  refine mayWait_below c _ 2 (le_of_eq (lv_one k c)) _ fun g u hg => ?_
  cases u
  obtain ⟨k', rfl⟩ := owY_pos hg
  exact ⟨⟨_, _, rfl⟩, by rw [lv_three]; decide⟩

omit [FloatOps F] in
theorem mayWait_none (c : Dev nD) (sm : SemLoc sig) : (levAts L lv : sProp 𝕄) ⊢ MayWait (c : Thread nD τ) sm () 0 := by
  rw [MayWait_zero]; iintro -; iempintro

/-! ## What is known throughout -/

/-- Every counter's invariant, under the names `K`, every counter's round 0 reached, and the levels. -/
def records (K : Dev nD × Option (Fin 4 × Fin 16) → ℕ) : sProp 𝕄 :=
  iprop((bigSep Finset.univ fun ck : Dev nD × Option (Fin 4 × Fin 16) => cellInv ER (Rd m ρ) (K ck) (kcell ck))
    ∗ (bigSep Finset.univ fun ck : Dev nD × Option (Fin 4 × Fin 16) => reached ER (kcell ck) 0) ∗ levAts L lv)

instance records_persistent (K) : BI.Persistent (records m ρ K) := by unfold records; infer_instance

variable (K : Dev nD × Option (Fin 4 × Fin 16) → ℕ)

theorem inv_at (ck : Dev nD × Option (Fin 4 × Fin 16)) : (records m ρ K : sProp 𝕄) ⊢ cellInv ER (Rd m ρ) (K ck) (kcell ck) := by
  unfold records; exact sep_elim_left.trans (bigSep_elim (Finset.mem_univ ck))
theorem reached_at (ck : Dev nD × Option (Fin 4 × Fin 16)) : (records m ρ K : sProp 𝕄) ⊢ reached ER (kcell ck) 0 := by
  unfold records; exact sep_elim_right.trans (sep_elim_left.trans (bigSep_elim (Finset.mem_univ ck)))
theorem lev_at : (records m ρ K : sProp 𝕄) ⊢ levAts L lv := by
  unfold records; exact sep_elim_right.trans sep_elim_right

/-- What device `c` owes, at whatever waits it has made. -/
def owesE (c : Dev nD) (O : CellTallies nD τ sig Unit) : sProp 𝕄 := iprop(∃ W, owes (c : Thread nD τ) O W)

end Cert.KernelIdeal.Exchange

end
-- ==== Proof.KernelIdeal.Steps.lean ====
/-
Each step of the body, alone: what it needs, and what it leaves.
-/
module

public import proofs.«01_k».proof.Proof.KernelIdeal.Protocol

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Running `p` on device `c` ends, without a fault, with `Q` held. -/
abbrev runs (c : Dev nD) (p : Step F) (Q : sProp 𝕄) : sProp 𝕄 :=
  wp frame (wpE (defs₀ (F := F)) 𝒱₀ (c : Thread nD τ) none) Set.univ p (fun _ => Q)

theorem runs_seq {c : Dev nD} {p q : Step F} {P R Q : sProp 𝕄} (hp : P ⊢ runs c p R) (hq : R ⊢ runs c q Q) :
    P ⊢ runs c (p >>= fun _ => q) Q := by
  unfold runs at *
  rw [wp_bind]
  exact hp.trans (wp_mono _ _ _ fun _ => hq)

theorem runs_frame {c : Dev nD} {p : Step F} {P Q R : sProp 𝕄} (hp : P ⊢ runs c p Q) : iprop(P ∗ R) ⊢ runs c p iprop(Q ∗ R) :=
  (sep_mono_left hp).trans (wp_frame_r _ _ _)

theorem runs_skip {c : Dev nD} {P : sProp 𝕄} : P ⊢ runs c (pure ⟨⟩) P := by
  unfold runs; rw [Prog.pure_eq_ret, wp_ret]; iintro H; imodintro; iexact H

/-- A loop, from what one turn does: turn `k` takes `A k` to `B k` and moves the common part from `R (k :: l)` to `R l`. -/
theorem runs_loop {c : Dev nD} {f : Fin 16 → Step F} {A B : Fin 16 → sProp 𝕄} {R : List (Fin 16) → sProp 𝕄}
    (h : ∀ k l, iprop(A k ∗ R (k :: l)) ⊢ runs c (f k) iprop(B k ∗ R l)) (l : List (Fin 16)) :
    iprop(sepL l A ∗ R l) ⊢ runs c (loop f l) iprop(sepL l B ∗ R []) := by
  induction l with
  | nil => exact runs_skip
  | cons k l ih =>
    refine runs_seq (R := iprop((B k ∗ R l) ∗ sepL l A)) ?_ ?_
    · refine .trans ?_ (runs_frame (h k l))
      show iprop((A k ∗ sepL l A) ∗ R (k :: l)) ⊢ _
      iintro ⟨⟨HA, HL⟩, HR⟩
      isplitl [HA HR]
      · isplitl [HA] <;> iassumption
      iexact HL
    · refine .trans ?_ ((runs_frame (R := B k) ih).trans (wp_mono _ _ _ fun _ => ?_))
      · iintro ⟨⟨HB, HR⟩, HL⟩
        isplitl [HL HR]
        · isplitl [HL] <;> iassumption
        iexact HB
      · show _ ⊢ iprop((B k ∗ sepL l B) ∗ R [])
        iintro ⟨⟨HL, HR⟩, HB⟩
        isplitl [HB HL]
        · isplitl [HB] <;> iassumption
        iexact HR

variable (m : (ℓ : Loc nD τ sig) → Buf (Elt F) ℓ) (ρ : Dev nD → PrngReg)
variable (K : Dev nD × Option (Fin 4 × Fin 16) → ℕ)

theorem sub_load {b : Ref sig .tc} (r : Rect b.ty.shape) : (View.whole b).setOn r.set ⊆ r.set := by
  have h := View.set_slice (View.whole b) r
  rw [View.set_slice_whole] at h
  exact (Finset.Subset.refl _).trans_eq h.symm
theorem sub_store {b : Ref sig .tc} (r : Rect b.ty.shape) : ((View.whole b).slice r).setOn Finset.univ ⊆ r.set := by
  rw [View.setOn_univ, View.set_slice_whole]

/-- Device `c`'s staged block of `x`. -/
def xPts (c : Dev nD) : sProp 𝕄 := ((c : Thread nD τ).loc cc0_stg0_0) ↦{fullShare} xstg m ρ c

theorem stage_runs (c : Dev nD) (k : Fin 16) :
    iprop(xPts m ρ c ∗ ∃ f, sPts c fullShare k f) ⊢ runs c (stage k) iprop(xPts m ρ c ∗ sPts c fullShare k (XS m ρ c)) := by
  unfold runs stage
  simp only [Prog.lift, Prog.bind_op, Prog.bind_ret]
  unfold xPts sPts
  iintro ⟨Hx, ⟨%f, Hs⟩⟩
  iapply (wp_load 𝒱₀ (c : Thread nD τ) none Set.univ (m := xM) (Finset.subset_univ _)) $$ Hx; iintro Hx
  iapply (wp_load 𝒱₀ (c : Thread nD τ) none Set.univ (m := sM) (sub_load (b := cc0_scratch0) (rB k))) $$ Hs; iintro Hs
  iapply (wp_store 𝒱₀ (c : Thread nD τ) none Set.univ (m := sM) (r := rB k) (Mk := Finset.univ) (sub_store (b := cc0_scratch0) (rB k))) $$ Hs; iintro Hs
  rw [wp_ret]; imodintro
  isplitl [Hx]; · iexact Hx
  iapply (Entails.of_eq (pointsTo_congr (store_at (b := cc0_scratch0) (rB k) f (staged m ρ c k) (XS m ρ c) (XS_emb m ρ c k)))) $$ Hs

/-- A wait for the whole of a transfer's counter: the counter is spent, its value zero again, and the payload is the
    device's. -/
theorem wait_runs (c : Dev nD) (p : Fin 4 × Fin 16) {q : DmaSem sig} {src dst : Memref sig .tc .vmem S64x512 .bf16}
    {hsrc : src.view.WordExact} {hdst : dst.view.WordExact} (hq : q = dsem p) (hN : dst.view.dmaCredit = N)
    (O : CellTallies nD τ sig Unit) (hO : (levAts L lv : sProp 𝕄) ⊢ MayWait (c : Thread nD τ) (.dma (dsem p)) () O) :
    iprop(records m ρ K ∗ cred (tallyAt (cell p c) () N) ∗ atPos ER (cell p c) 0 ∅ 0 ∗ owesE c O)
      ⊢ runs c (Prog.lift (.waitDma2 q src dst hsrc hdst)) iprop(dmaPay m ρ c p ∗ semVal (cell p c) 0 ∗ owesE c O) := by
  subst hq
  unfold runs Prog.lift owesE
  iintro ⟨#HR, Hc, Hat, ⟨%W, HO⟩⟩
  iapply (Rounds.wp_wait_rest_token 𝒱₀ ER (Rd m ρ) (c : Thread nD τ) none (κ := K (c, some p))
      (fun Kt => (wpE_waitDma2_eq 𝒱₀ (c : Thread nD τ) none Set.univ Kt).trans (by rw [hN])) (Set.mem_univ _) () (O := O) (W := W) (R := 0) (m := 0) (T := ∅)
      (by rw [Nat.zero_add]; exact (expect_cell m ρ c p).symm)) $$ [Hc HO Hat]
  · isplitr; · iapply (inv_at m ρ K (c, some p)); iexact HR
    isplitl [Hc]; · iexact Hc
    isplitl [HO]; · iexact HO
    isplitr; · iapply hO; iapply (lev_at m ρ K); iexact HR
    iexact Hat
  iintro ⟨HO, Hat, -, Hpay⟩
  ihave Hp := (Entails.of_eq (rest_cell m ρ c p)) $$ Hpay
  imod (Rounds.cell_close ER (Rd m ρ) (Set.mem_univ (K (c, some p))) (fun h => h) (R := 0 + 1) (duties_later m ρ (cell p c))) $$ [Hat] with Hz
  · isplitr; · iapply (inv_at m ρ K (c, some p)); iexact HR
    iexact Hat
  rw [wp_ret]; imodintro
  isplitl [Hp]; · iexact Hp
  isplitl [Hz]; · iexact Hz
  iexists _; iexact HO

/-- The transfer of chunk `k` to the row neighbour: half of the slot stays readable, the other half comes back with the
    departure counter. -/
theorem sendX_to (c n : Dev nD) (hn : n = xn c) (k : Fin 16) (O : CellTallies nD τ sig Unit)
    {hsc : (rP k : Memref sig (Dev.tc n : Thread nD τ).2.kind .vmem S64x512 .bf16).view.ref.isScScratch = false}
    {hsrc : (sP k).view.WordExact} {hdst : (rP k).view.WordExact}
    {hsem : DmaTarget.Typed .vmem (.dma (semAt cc0_scratch3 k))
      (.remote (Dev.tc n : Thread nD τ) (rP k : Memref sig (Dev.tc n : Thread nD τ).2.kind .vmem S64x512 .bf16) (.dma (semAt cc0_scratch2 k)) hsc)} :
    iprop(records m ρ K ∗ sPts c fullShare k (XS m ρ c) ∗ (∃ f, rPts (xn c) k f)
        ∗ dutyTok ER (cell (0, k) c) 0 false ∗ dutyTok ER (cell (1, k) (xn c)) 0 false
        ∗ owesE c (O + tallyAt (cell (1, k) (xn c)) () N))
      ⊢ runs c (Prog.lift (.enqueueDma (sP k) (.remote (Dev.tc n : Thread nD τ) (rP k) (.dma (semAt cc0_scratch2 k)) hsc)
            (.dma (semAt cc0_scratch3 k)) hsrc hdst hsem))
          iprop(sPts c fullShare.right k (XS m ρ c) ∗ cred (tallyAt (cell (0, k) c) () N) ∗ owesE c O) := by
  subst hn
  unfold runs Prog.lift owesE
  iintro ⟨#HR, Hs, ⟨%f, Hr⟩, Ht0, Ht1, ⟨%W, HO⟩⟩
  unfold sPts rPts
  ihave Hs2 := (pointsTo_share (PosShare.mem_left_op_right fullShare)).1 $$ Hs
  icases Hs2 with ⟨HsL, HsR⟩
  iapply (Rounds.wp_send_pointsTo 𝒱₀ ER (Rd m ρ) (c : Thread nD τ) none (κ₁ := K (c, some (0, k))) (κ₂ := K (xn c, some (1, k)))
    (c' := (xn c : Thread nD τ)) (src := sP k) (dst := rP k) (sS := .dma (dsem (0, k))) (sem := .dma (dsem (1, k)))
    (r₁ := 0) (r₂ := 0) (d₁ := false) (d₂ := false) (q := fullShare.left) (fs := XS m ρ c) (fd := f)
    (by rw [duties_cell m ρ c (0, k)]; exact Finset.mem_singleton_self _) (by rw [duties_cell m ρ (xn c) (1, k)]; exact Finset.mem_singleton_self _)
    () () N rfl (amount_cell m ρ c (0, k) false) (amount_cell m ρ (xn c) (1, k) false) O rfl (W := W)
    (by rw [payload_cell m ρ c (0, k), set_sP]; exact BI.Entails.refl _)
    (by rw [payload_cell m ρ (xn c) (1, k), set_rP]; unfold dmaPay rPts; rw [xn_xn]
        exact Entails.of_eq (pointsTo_congr (sent_at k f (XS m ρ c))))) $$ [HsL Hr HO Ht0 Ht1]
  · isplitr; · iapply (inv_at m ρ K (c, some (0, k))); iexact HR
    isplitr; · iapply (inv_at m ρ K (xn c, some (1, k))); iexact HR
    isplitl [HsL]; · rw [set_sP]; iexact HsL
    isplitl [Hr]; · rw [set_rP]; iexact Hr
    isplitl [HO]; · iexact HO
    isplitl [Ht0]; · iexact Ht0
    isplitr; · iapply (reached_at m ρ K (c, some (0, k))); iexact HR
    isplitl [Ht1]; · iexact Ht1
    iapply (reached_at m ρ K (xn c, some (1, k))); iexact HR
  iintro ⟨Hc, HO⟩
  rw [wp_ret]; imodintro
  isplitl [HsR]; · iexact HsR
  isplitl [Hc]; · iexact Hc
  iexists W; iexact HO

theorem sendX_runs (c : Dev nD) (k : Fin 16) (O : CellTallies nD τ sig Unit) :
    iprop(records m ρ K ∗ sPts c fullShare k (XS m ρ c) ∗ (∃ f, rPts (xn c) k f)
        ∗ dutyTok ER (cell (0, k) c) 0 false ∗ dutyTok ER (cell (1, k) (xn c)) 0 false
        ∗ owesE c (O + tallyAt (cell (1, k) (xn c)) () N))
      ⊢ runs c (sendX c k) iprop(sPts c fullShare.right k (XS m ρ c) ∗ cred (tallyAt (cell (0, k) c) () N) ∗ owesE c O) :=
  sendX_to m ρ K c _ (dev1_eq c) k O

/-- The raise of the row neighbour's barrier counter hands over the own receive buffer. -/
theorem signalX_runs (c : Dev nD) (O : CellTallies nD τ sig Unit) :
    iprop(records m ρ K ∗ sepL allK (fun k => iprop(∃ f, rPts c k f)) ∗ dutyTok ER (barCell (xn c)) 0 false
        ∗ owesE c (O + tallyAt (barCell (xn c)) () 1))
      ⊢ runs c (semSignalWord (⟨k0_dev1 c, k0_dev1_lt c⟩ : Dev nD) barS 1#32) (owesE c O) := by
  rw [dev1_eq c]
  unfold runs semSignalWord owesE
  iintro ⟨#HR, Hr, Ht, ⟨%W, HO⟩⟩
  iapply (Rounds.wp_signal 𝒱₀ ER (Rd m ρ) (c : Thread nD τ) none (dst := (xn c : Thread nD τ)) (κ := K (xn c, none))
      (d := false) (by rw [duties_bar]; exact Finset.mem_univ _) ((amount_bar m ρ (xn c) false).trans (by decide)) () O rfl) $$ [HO Ht Hr]
  · isplitr; · iapply (inv_at m ρ K (xn c, none)); iexact HR
    isplitl [HO]; · iexact HO
    isplitl [Ht]; · iexact Ht
    isplitl [Hr]
    · rw [payload_bar]; unfold barPay; rw [xn_xn, if_neg Bool.false_ne_true]; iexact Hr
    iapply (reached_at m ρ K (xn c, none)); iexact HR
  iintro HO
  rw [wp_ret]; imodintro
  iexists W; iexact HO

/-- The raise of the column neighbour's barrier counter hands over the half of the own result that neighbour computes. -/
theorem signalY_runs (c : Dev nD) (O : CellTallies nD τ sig Unit) :
    iprop(records m ρ K ∗ sepL allK (fun k => iprop(∃ f, oPts c (half (yn c)) k f)) ∗ dutyTok ER (barCell (yn c)) 0 true
        ∗ owesE c (O + tallyAt (barCell (yn c)) () 1))
      ⊢ runs c (semSignalWord (⟨k0_dev2 c, k0_dev2_lt c⟩ : Dev nD) barS 1#32) (owesE c O) := by
  rw [dev2_eq c]
  unfold runs semSignalWord owesE
  iintro ⟨#HR, Hr, Ht, ⟨%W, HO⟩⟩
  iapply (Rounds.wp_signal 𝒱₀ ER (Rd m ρ) (c : Thread nD τ) none (dst := (yn c : Thread nD τ)) (κ := K (yn c, none))
      (d := true) (by rw [duties_bar]; exact Finset.mem_univ _) ((amount_bar m ρ (yn c) true).trans (by decide)) () O rfl) $$ [HO Ht Hr]
  · isplitr; · iapply (inv_at m ρ K (yn c, none)); iexact HR
    isplitl [HO]; · iexact HO
    isplitl [Ht]; · iexact Ht
    isplitl [Hr]
    · rw [payload_bar]; unfold barPay; rw [yn_yn, if_pos rfl]; iexact Hr
    iapply (reached_at m ρ K (yn c, none)); iexact HR
  iintro HO
  rw [wp_ret]; imodintro
  iexists W; iexact HO

/-- The wait for both raises of the own barrier counter. -/
theorem waitBar_runs (c : Dev nD) :
    iprop(records m ρ K ∗ cred (tallyAt (barCell c) () 2) ∗ atPos ER (barCell c) 0 ∅ 0 ∗ owesE c (O₂ c))
      ⊢ runs c (semWaitWord barS 2#32) iprop(barPay c false ∗ barPay c true ∗ semVal (barCell c) 0 ∗ owesE c (O₂ c)) := by
  unfold runs semWaitWord owesE
  iintro ⟨#HR, Hc, Hat, ⟨%W, HO⟩⟩
  iapply (Rounds.wp_wait_rest_token 𝒱₀ ER (Rd m ρ) (c : Thread nD τ) none (κ := K (c, none))
      (wpE_semWait_eq 𝒱₀ (c : Thread nD τ) none Set.univ) (Set.mem_univ _) () (O := O₂ c) (W := W) (R := 0) (m := 0) (T := ∅)
      (by rw [expect_bar]; decide)) $$ [Hc HO Hat]
  · isplitr; · iapply (inv_at m ρ K (c, none)); iexact HR
    isplitl [Hc]; · iexact Hc
    isplitl [HO]; · iexact HO
    isplitr; · iapply (mayWait_bar c); iapply (lev_at m ρ K); iexact HR
    iexact Hat
  iintro ⟨HO, Hat, -, Hpay⟩
  ihave Hp := (Entails.of_eq (rest_bar m ρ c)) $$ Hpay
  imod (Rounds.cell_close ER (Rd m ρ) (Set.mem_univ (K (c, none))) (fun h => h) (R := 0 + 1) (duties_later m ρ (barCell c))) $$ [Hat] with Hz
  · isplitr; · iapply (inv_at m ρ K (c, none)); iexact HR
    iexact Hat
  rw [wp_ret]; imodintro
  icases Hp with ⟨H1, H2⟩
  isplitl [H1]; · iexact H1
  isplitl [H2]; · iexact H2
  isplitl [Hz]; · iexact Hz
  iexists _; iexact HO

/-- The transfer of piece `k` to the column neighbour: the piece comes back with the departure counter. -/
theorem sendY_to (c n : Dev nD) (hn : n = yn c) (k : Fin 16) (O : CellTallies nD τ sig Unit)
    {hsc : (oP (half c) k : Memref sig (Dev.tc n : Thread nD τ).2.kind .vmem S64x512 .bf16).view.ref.isScScratch = false}
    {hsrc : (oP (half c) k).view.WordExact} {hdst : (oP (half c) k).view.WordExact}
    {hsem : DmaTarget.Typed .vmem (.dma (semAt cc0_scratch5 k))
      (.remote (Dev.tc n : Thread nD τ) (oP (half c) k : Memref sig (Dev.tc n : Thread nD τ).2.kind .vmem S64x512 .bf16) (.dma (semAt cc0_scratch4 k)) hsc)} :
    iprop(records m ρ K ∗ oPts c (half c) k (OUT m ρ c) ∗ (∃ f, oPts (yn c) (half c) k f)
        ∗ dutyTok ER (cell (2, k) c) 0 false ∗ dutyTok ER (cell (3, k) (yn c)) 0 false
        ∗ owesE c (O + tallyAt (cell (3, k) (yn c)) () N))
      ⊢ runs c (Prog.lift (.enqueueDma (oP (half c) k) (.remote (Dev.tc n : Thread nD τ) (oP (half c) k) (.dma (semAt cc0_scratch4 k)) hsc)
            (.dma (semAt cc0_scratch5 k)) hsrc hdst hsem))
          iprop(cred (tallyAt (cell (2, k) c) () N) ∗ owesE c O) := by
  subst hn
  unfold runs Prog.lift owesE
  iintro ⟨#HR, Hs, ⟨%f, Hr⟩, Ht0, Ht1, ⟨%W, HO⟩⟩
  unfold oPts
  iapply (Rounds.wp_send_pointsTo 𝒱₀ ER (Rd m ρ) (c : Thread nD τ) none (κ₁ := K (c, some (2, k))) (κ₂ := K (yn c, some (3, k)))
    (c' := (yn c : Thread nD τ)) (src := oP (half c) k) (dst := oP (half c) k) (sS := .dma (dsem (2, k))) (sem := .dma (dsem (3, k)))
    (r₁ := 0) (r₂ := 0) (d₁ := false) (d₂ := false) (q := fullShare) (fs := OUT m ρ c) (fd := f)
    (by rw [duties_cell m ρ c (2, k)]; exact Finset.mem_singleton_self _) (by rw [duties_cell m ρ (yn c) (3, k)]; exact Finset.mem_singleton_self _)
    () () N rfl (amount_cell m ρ c (2, k) false) (amount_cell m ρ (yn c) (3, k) false) O rfl (W := W)
    (by rw [payload_cell m ρ c (2, k), set_oP]; exact BI.Entails.refl _)
    (by rw [payload_cell m ρ (yn c) (3, k), set_oP]; unfold dmaPay oPts; rw [yn_yn, OUT_yn]
        exact Entails.of_eq (pointsTo_congr (piece_at (half c) k f (OUT m ρ c))))) $$ [Hs Hr HO Ht0 Ht1]
  · isplitr; · iapply (inv_at m ρ K (c, some (2, k))); iexact HR
    isplitr; · iapply (inv_at m ρ K (yn c, some (3, k))); iexact HR
    isplitl [Hs]; · rw [set_oP]; iexact Hs
    isplitl [Hr]; · rw [set_oP]; iexact Hr
    isplitl [HO]; · iexact HO
    isplitl [Ht0]; · iexact Ht0
    isplitr; · iapply (reached_at m ρ K (c, some (2, k))); iexact HR
    isplitl [Ht1]; · iexact Ht1
    iapply (reached_at m ρ K (yn c, some (3, k))); iexact HR
  iintro ⟨Hc, HO⟩
  rw [wp_ret]; imodintro
  isplitl [Hc]; · iexact Hc
  iexists W; iexact HO

/-- The sum of chunk `k` and the store of it, before whatever comes next. -/
theorem sum_then (c : Dev nD) (k : Fin 16) (rest : Step F) {P Q : sProp 𝕄}
    (h : iprop(sPts c fullShare.right k (XS m ρ c) ∗ rPts c k (XS m ρ (xn c)) ∗ oPts c (half c) k (OUT m ρ c) ∗ P) ⊢ runs c rest Q) :
    iprop(sPts c fullShare.right k (XS m ρ c) ∗ rPts c k (XS m ρ (xn c)) ∗ (∃ f, oPts c (half c) k f) ∗ P)
      ⊢ runs c (do
          let v : Vec F S1x64x512 .bf16 ← Prog.lift (.load sM (rB k).toLoadRect (View.loadsAt_vmem h_S1x64x512))
          let w : Vec F S1x64x512 .bf16 ← Prog.lift (.load rM (rB k).toLoadRect (View.loadsAt_vmem h_S1x64x512))
          let _ : Vec F S64x512 .bf16 ← Prog.lift (.load oM (rO (half c) k).toLoadRect (View.loadsAt_vmem h_S64x512))
          Prog.lift (.store oM (rO (half c) k) (addf (shapeCast S64x512 v shapeCasts_S1x64x512_S64x512) (shapeCast S64x512 w shapeCasts_S1x64x512_S64x512)) Finset.univ
            (View.stores_vmem h_S64x512 ((Memref.isWhole_whole cc0_stg1_0).storeExact_slice rfl _ (packedO (half c) k)) (fun _ => rfl)) (.inl rfl))
          rest) Q := by
  unfold runs at *
  simp only [Prog.lift, Prog.bind_op, Prog.bind_ret]
  refine .trans ?_ (show iprop(sPts c fullShare.right k (XS m ρ c) ∗ rPts c k (XS m ρ (xn c)) ∗ (∃ f, oPts c (half c) k f)
    ∗ (sPts c fullShare.right k (XS m ρ c) ∗ rPts c k (XS m ρ (xn c)) ∗ oPts c (half c) k (OUT m ρ c) -∗
      wp frame (wpE (defs₀ (F := F)) 𝒱₀ (c : Thread nD τ) none) Set.univ rest (fun _ => Q))) ⊢ _ from ?_)
  · iintro ⟨Hs, Hr, Ho, HP⟩
    isplitl [Hs]; · iexact Hs
    isplitl [Hr]; · iexact Hr
    isplitl [Ho]; · iexact Ho
    iintro ⟨Hs, Hr, Ho⟩
    iapply h
    isplitl [Hs]; · iexact Hs
    isplitl [Hr]; · iexact Hr
    isplitl [Ho] <;> iassumption
  unfold sPts rPts oPts
  iintro ⟨Hs, Hr, ⟨%f, Ho⟩, Hk⟩
  iapply (wp_load 𝒱₀ (c : Thread nD τ) none Set.univ (m := sM) (sub_load (b := cc0_scratch0) (rB k))) $$ Hs; iintro Hs
  iapply (wp_load 𝒱₀ (c : Thread nD τ) none Set.univ (m := rM) (sub_load (b := cc0_scratch1) (rB k))) $$ Hr; iintro Hr
  iapply (wp_load 𝒱₀ (c : Thread nD τ) none Set.univ (m := oM) (sub_load (b := cc0_stg1_0) (rO (half c) k))) $$ Ho; iintro Ho
  iapply (wp_store 𝒱₀ (c : Thread nD τ) none Set.univ (m := oM) (r := rO (half c) k) (Mk := Finset.univ)
    (sub_store (b := cc0_stg1_0) (rO (half c) k))) $$ Ho; iintro Ho
  ihave Ho' := (Entails.of_eq (pointsTo_congr (store_at (b := cc0_stg1_0) (rO (half c) k) f (sumC m ρ c k) (OUT m ρ c)
    (fun x => (OUT_emb m ρ c (half c) k x).trans (by rw [col_half]))))) $$ Ho
  iapply Hk
  isplitl [Hs]; · iexact Hs
  isplitl [Hr]; · iexact Hr
  iexact Ho'

/-- Chunk `k` awaited, added to the own one into the result's piece, and that piece sent on. -/
theorem sumSend_runs (c : Dev nD) (k : Fin 16) (l : List (Fin 16)) :
    iprop(records m ρ K ∗ sPts c fullShare.right k (XS m ρ c) ∗ cred (tallyAt (cell (1, k) c) () N) ∗ atPos ER (cell (1, k) c) 0 ∅ 0
        ∗ (∃ f, oPts c (half c) k f) ∗ (∃ f, oPts (yn c) (half c) k f)
        ∗ dutyTok ER (cell (2, k) c) 0 false ∗ dutyTok ER (cell (3, k) (yn c)) 0 false
        ∗ owesE c (owY c (k :: l)))
      ⊢ runs c (sumSend (half c) c k) iprop((sPts c fullShare.right k (XS m ρ c) ∗ rPts c k (XS m ρ (xn c)) ∗ semVal (cell (1, k) c) 0
          ∗ cred (tallyAt (cell (2, k) c) () N)) ∗ owesE c (owY c l)) := by
  unfold sumSend
  refine runs_seq (R := iprop((dmaPay m ρ c (1, k) ∗ semVal (cell (1, k) c) 0 ∗ owesE c (owY c (k :: l)))
    ∗ (records m ρ K ∗ sPts c fullShare.right k (XS m ρ c) ∗ (∃ f, oPts c (half c) k f) ∗ (∃ f, oPts (yn c) (half c) k f)
        ∗ dutyTok ER (cell (2, k) c) 0 false ∗ dutyTok ER (cell (3, k) (yn c)) 0 false))) ?_ ?_
  · refine .trans ?_ (runs_frame (wait_runs m ρ K c (1, k) (q := semAt cc0_scratch3 k) (src := sP k) (dst := rP k) rfl rfl _ (mayWait_came c k (k :: l))))
    iintro ⟨#HR, Hs, Hc, Hat, Ho, Hy, Ht0, Ht1, HO⟩
    isplitl [Hc Hat HO]
    · isplitr; · iexact HR
      isplitl [Hc]; · iexact Hc
      isplitl [Hat] <;> iassumption
    isplitr; · iexact HR
    isplitl [Hs]; · iexact Hs
    isplitl [Ho]; · iexact Ho
    isplitl [Hy]; · iexact Hy
    isplitl [Ht0] <;> iassumption
  · refine .trans ?_ (sum_then m ρ c k _ (P := iprop(records m ρ K ∗ (∃ f, oPts (yn c) (half c) k f)
        ∗ dutyTok ER (cell (2, k) c) 0 false ∗ dutyTok ER (cell (3, k) (yn c)) 0 false ∗ owesE c (owY c (k :: l)) ∗ semVal (cell (1, k) c) 0)) ?_)
    · unfold dmaPay
      iintro ⟨⟨Hr, Hz, HO⟩, #HR, Hs, Ho, Hy, Ht0, Ht1⟩
      isplitl [Hs]; · iexact Hs
      isplitl [Hr]; · iexact Hr
      isplitl [Ho]; · iexact Ho
      isplitr; · iexact HR
      isplitl [Hy]; · iexact Hy
      isplitl [Ht0]; · iexact Ht0
      isplitl [Ht1]; · iexact Ht1
      isplitl [HO] <;> iassumption
    · refine .trans ?_ ((runs_frame (R := iprop(sPts c fullShare.right k (XS m ρ c) ∗ rPts c k (XS m ρ (xn c)) ∗ semVal (cell (1, k) c) 0))
        (sendY_to m ρ K c _ (dev2_eq c) k (owY c l))).trans (wp_mono _ _ _ fun _ => ?_))
      · iintro ⟨Hs, Hr, Ho, #HR, Hy, Ht0, Ht1, HO, Hz⟩
        isplitr [Hs Hr Hz]
        · isplitr; · iexact HR
          isplitl [Ho]; · iexact Ho
          isplitl [Hy]; · iexact Hy
          isplitl [Ht0]; · iexact Ht0
          isplitl [Ht1]; · iexact Ht1
          iexact HO
        isplitl [Hs]; · iexact Hs
        isplitl [Hr] <;> iassumption
      · iintro ⟨⟨Hc, HO⟩, Hs, Hr, Hz⟩
        isplitr [HO]
        · isplitl [Hs]; · iexact Hs
          isplitl [Hr]; · iexact Hr
          isplitl [Hz] <;> iassumption
        iexact HO

/-- Piece `k` awaited from the column neighbour, and the own piece's departure. -/
theorem finishY_runs (c : Dev nD) (k : Fin 16) :
    iprop(records m ρ K ∗ cred (tallyAt (cell (2, k) c) () N) ∗ atPos ER (cell (2, k) c) 0 ∅ 0
        ∗ cred (tallyAt (cell (3, k) c) () N) ∗ atPos ER (cell (3, k) c) 0 ∅ 0 ∗ owesE c 0)
      ⊢ runs c (finishY (half c) k) iprop((oPts c (half c) k (OUT m ρ c) ∗ oPts c (half (yn c)) k (OUT m ρ c)
          ∗ semVal (cell (2, k) c) 0 ∗ semVal (cell (3, k) c) 0) ∗ owesE c 0) := by
  unfold finishY
  refine runs_seq (R := iprop((dmaPay m ρ c (3, k) ∗ semVal (cell (3, k) c) 0 ∗ owesE c 0)
    ∗ (records m ρ K ∗ cred (tallyAt (cell (2, k) c) () N) ∗ atPos ER (cell (2, k) c) 0 ∅ 0))) ?_ ?_
  · refine .trans ?_ (runs_frame (wait_runs m ρ K c (3, k) (q := semAt cc0_scratch5 k) (src := oP (half c) k) (dst := oP (half c) k) rfl rfl _ (mayWait_none c _)))
    iintro ⟨#HR, Hc2, Ha2, Hc3, Ha3, HO⟩
    isplitl [Hc3 Ha3 HO]
    · isplitr; · iexact HR
      isplitl [Hc3]; · iexact Hc3
      isplitl [Ha3] <;> iassumption
    isplitr; · iexact HR
    isplitl [Hc2] <;> iassumption
  · refine .trans ?_ ((runs_frame (R := iprop(dmaPay m ρ c (3, k) ∗ semVal (cell (3, k) c) 0))
      (wait_runs m ρ K c (2, k) (q := semAt cc0_scratch4 k) (src := oP (half c) k) (dst := oP (half c) k) rfl rfl _ (mayWait_none c _))).trans (wp_mono _ _ _ fun _ => ?_))
    · iintro ⟨⟨Hp, Hz, HO⟩, #HR, Hc2, Ha2⟩
      isplitl [Hc2 Ha2 HO]
      · isplitr; · iexact HR
        isplitl [Hc2]; · iexact Hc2
        isplitl [Ha2] <;> iassumption
      isplitl [Hp] <;> iassumption
    · iintro ⟨⟨Hp2, Hz2, HO⟩, Hp3, Hz3⟩
      unfold dmaPay
      isplitr [HO]
      · isplitl [Hp2]; · iexact Hp2
        isplitl [Hp3]; · iexact Hp3
        isplitl [Hz2] <;> iassumption
      iexact HO

/-- Chunk `k`'s departure awaited. -/
theorem finishX_runs (c : Dev nD) (k : Fin 16) :
    iprop(records m ρ K ∗ cred (tallyAt (cell (0, k) c) () N) ∗ atPos ER (cell (0, k) c) 0 ∅ 0 ∗ owesE c 0)
      ⊢ runs c (finishX k) iprop((sPts c fullShare.left k (XS m ρ c) ∗ semVal (cell (0, k) c) 0) ∗ owesE c 0) := by
  refine (wait_runs m ρ K c (0, k) (q := semAt cc0_scratch2 k) (src := rP k) (dst := sP k) rfl rfl _ (mayWait_none c _)).trans (wp_mono _ _ _ fun _ => ?_)
  iintro ⟨Hp, Hz, HO⟩
  unfold dmaPay
  isplitl [Hp Hz]
  · isplitl [Hp] <;> iassumption
  iexact HO

end Cert.KernelIdeal.Exchange

end
-- ==== Proof.KernelIdeal.Body.lean ====
/-
The body of the kernel on one device, put together from its steps.
-/
module

public import proofs.«01_k».proof.Proof.KernelIdeal.Steps

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Putting steps together -/

/-- A step at the head of a program: give what it needs, go on with what it leaves. -/
theorem runs_step {c : Dev nD} {p q : Step F} {P R Q : sProp 𝕄} (hp : P ⊢ runs c p R) :
    P ⊢ iprop((R -∗ runs c q Q) -∗ runs c (p >>= fun _ => q) Q) := by
  iintro HP Hk
  iapply (runs_seq (R := iprop(R ∗ (R -∗ runs c q Q))) (runs_frame hp) ?_)
  · iintro ⟨HR, Hk⟩; iapply Hk; iexact HR
  · isplitl [HP] <;> iassumption

/-- The last step of a program. -/
theorem runs_last {c : Dev nD} {p : Step F} {P R Q : sProp 𝕄} (hp : P ⊢ runs c p R) :
    P ⊢ iprop((R -∗ Q) -∗ runs c p Q) := by
  iintro HP Hk
  iapply ((runs_frame (R := iprop(R -∗ Q)) hp).trans (wp_mono _ _ _ fun _ => ?_))
  · iintro ⟨HR, Hk⟩; iapply Hk; iexact HR
  · isplitl [HP] <;> iassumption

/-- A loop whose every turn may use what is known throughout. -/
theorem runs_loop_with {c : Dev nD} {f : Fin 16 → Step F} {G : sProp 𝕄} [BI.Persistent G] {A B : Fin 16 → sProp 𝕄} {R : List (Fin 16) → sProp 𝕄}
    (h : ∀ k l, iprop(G ∗ A k ∗ R (k :: l)) ⊢ runs c (f k) iprop(B k ∗ R l)) (l : List (Fin 16)) :
    iprop(G ∗ sepL l A ∗ R l) ⊢ runs c (loop f l) iprop(sepL l B ∗ R []) := by
  refine .trans ?_ ((runs_loop (A := A) (B := B) (R := fun l => iprop(G ∗ R l)) (fun k l => ?_) l).trans (wp_mono _ _ _ fun _ => ?_))
  · iintro ⟨HG, HA, HR⟩
    isplitl [HA]; · iexact HA
    isplitl [HG] <;> iassumption
  · refine .trans ?_ ((runs_frame (R := G) (h k l)).trans (wp_mono _ _ _ fun _ => ?_))
    · iintro ⟨HA, #HG, HR⟩
      isplitl [HA HR]
      · isplitr; · iexact HG
        isplitl [HA] <;> iassumption
      iexact HG
    · iintro ⟨⟨HB, HR⟩, HG⟩
      isplitl [HB]; · iexact HB
      isplitl [HG] <;> iassumption
  · iintro ⟨HB, -, HR⟩
    isplitl [HB] <;> iassumption

omit [FloatOps F] in
theorem sepL_sep (l : List (Fin 16)) (Φ Ψ : Fin 16 → sProp 𝕄) :
    sepL l (fun k => iprop(Φ k ∗ Ψ k)) ⊣⊢ iprop(sepL l Φ ∗ sepL l Ψ) := by
  induction l with
  | nil => exact ⟨by iintro H; isplitl []; · unfold sepL; iempintro
                     iexact H, by iintro ⟨-, H⟩; iexact H⟩
  | cons k l ih =>
    constructor
    · show iprop((Φ k ∗ Ψ k) ∗ sepL l (fun k => iprop(Φ k ∗ Ψ k))) ⊢ iprop((Φ k ∗ sepL l Φ) ∗ (Ψ k ∗ sepL l Ψ))
      iintro ⟨⟨H1, H2⟩, H⟩
      ihave H' := ih.1 $$ H
      icases H' with ⟨H3, H4⟩
      isplitl [H1 H3]
      · isplitl [H1] <;> iassumption
      isplitl [H2] <;> iassumption
    · show iprop((Φ k ∗ sepL l Φ) ∗ (Ψ k ∗ sepL l Ψ)) ⊢ iprop((Φ k ∗ Ψ k) ∗ sepL l (fun k => iprop(Φ k ∗ Ψ k)))
      iintro ⟨⟨H1, H3⟩, H2, H4⟩
      isplitl [H1 H2]
      · isplitl [H1] <;> iassumption
      iapply ih.2
      isplitl [H3] <;> iassumption

omit [FloatOps F] in
theorem sepL_append (l l' : List (Fin 16)) (Φ : Fin 16 → sProp 𝕄) : sepL (l ++ l') Φ ⊣⊢ iprop(sepL l Φ ∗ sepL l' Φ) := by
  induction l with
  | nil => exact ⟨by iintro H; isplitl []; · unfold sepL; iempintro
                     iexact H, by iintro ⟨-, H⟩; iexact H⟩
  | cons k l ih =>
    constructor
    · show iprop(Φ k ∗ sepL (l ++ l') Φ) ⊢ iprop((Φ k ∗ sepL l Φ) ∗ sepL l' Φ)
      iintro ⟨H1, H⟩
      ihave H' := ih.1 $$ H
      icases H' with ⟨H3, H4⟩
      isplitl [H1 H3]
      · isplitl [H1] <;> iassumption
      iexact H4
    · show iprop((Φ k ∗ sepL l Φ) ∗ sepL l' Φ) ⊢ iprop(Φ k ∗ sepL (l ++ l') Φ)
      iintro ⟨⟨H1, H3⟩, H4⟩
      isplitl [H1]; · iexact H1
      iapply ih.2
      isplitl [H3] <;> iassumption

omit [FloatOps F] in
theorem sepL_mono (l : List (Fin 16)) {Φ Ψ : Fin 16 → sProp 𝕄} (h : ∀ k, Φ k ⊢ Ψ k) : sepL l Φ ⊢ sepL l Ψ := by
  induction l with
  | nil => exact .rfl
  | cons k l ih => exact BI.sep_mono (h k) ih

omit [FloatOps F] in
theorem sepL_head (Φ : Fin 16 → sProp 𝕄) : sepL allK Φ ⊣⊢ iprop(Φ 0 ∗ sepL tailK Φ) := ⟨.rfl, .rfl⟩
omit [FloatOps F] in
theorem sepL_cut (Φ : Fin 16 → sProp 𝕄) : sepL allK Φ ⊣⊢ iprop(sepL [0, 1, 2] Φ ∗ sepL [3, 4, 5, 6, 7, 8, 9, 10, 11, 12, 13, 14, 15] Φ) :=
  sepL_append [0, 1, 2] [3, 4, 5, 6, 7, 8, 9, 10, 11, 12, 13, 14, 15] Φ

variable (m : (ℓ : Loc nD τ sig) → Buf (Elt F) ℓ) (ρ : Dev nD → PrngReg)
variable (K : Dev nD × Option (Fin 4 × Fin 16) → ℕ)

/-! ## The exchange along the first axis -/

omit [FloatOps F] in
theorem owes_peel (c : Dev nD) (Y : CellTallies nD τ sig Unit) (k : Fin 16) (l : List (Fin 16)) :
    (owesE c (Y + owX c (k :: l)) : sProp 𝕄) ⊢ owesE c ((Y + owX c l) + tallyAt (cell (1, k) (xn c)) () N) := by
  rw [add_assoc]; exact .rfl

theorem turnX (c : Dev nD) (k : Fin 16) (l : List (Fin 16)) :
    iprop(records m ρ K
        ∗ ((∃ f, sPts c fullShare k f) ∗ (∃ f, rPts (xn c) k f) ∗ dutyTok ER (cell (0, k) c) 0 false ∗ dutyTok ER (cell (1, k) (xn c)) 0 false)
        ∗ (xPts m ρ c ∗ owesE c (owY c allK + owX c (k :: l))))
      ⊢ runs c (stage k >>= fun _ => sendX c k) iprop((sPts c fullShare.right k (XS m ρ c) ∗ cred (tallyAt (cell (0, k) c) () N))
          ∗ (xPts m ρ c ∗ owesE c (owY c allK + owX c l))) := by
  iintro ⟨#HR, ⟨Hs, Hr, Ht0, Ht1⟩, Hx, HO⟩
  iapply (runs_step (stage_runs m ρ c k)) $$ [Hx Hs]
  · isplitl [Hx] <;> iassumption
  iintro ⟨Hx, Hs⟩
  iapply (runs_last (sendX_runs m ρ K c k (owY c allK + owX c l))) $$ [Hs Hr Ht0 Ht1 HO]
  · isplitr; · iexact HR
    isplitl [Hs]; · iexact Hs
    isplitl [Hr]; · iexact Hr
    isplitl [Ht0]; · iexact Ht0
    isplitl [Ht1]; · iexact Ht1
    iapply (owes_peel c (owY c allK) k l); iexact HO
  iintro ⟨Hs, Hc, HO⟩
  isplitl [Hs Hc]
  · isplitl [Hs] <;> iassumption
  isplitl [Hx] <;> iassumption

theorem phaseX_runs (c : Dev nD) :
    iprop(records m ρ K ∗ xPts m ρ c ∗ sepL allK (fun k => iprop(∃ f, sPts c fullShare k f)) ∗ sepL allK (fun k => iprop(∃ f, rPts c k f))
        ∗ sepL allK (fun k => iprop(∃ f, oPts c (half (yn c)) k f))
        ∗ dutyTok ER (barCell (xn c)) 0 false ∗ dutyTok ER (barCell (yn c)) 0 true
        ∗ cred (tallyAt (barCell c) () 2) ∗ atPos ER (barCell c) 0 ∅ 0
        ∗ sepL allK (fun k => dutyTok ER (cell (0, k) c) 0 false) ∗ sepL allK (fun k => dutyTok ER (cell (1, k) (xn c)) 0 false)
        ∗ owesE c (O₀ c))
      ⊢ runs c (phaseX c) iprop(xPts m ρ c ∗ sepL allK (fun k => iprop(∃ f, oPts (yn c) (half c) k f)) ∗ semVal (barCell c) 0
          ∗ sepL allK (fun k => iprop(sPts c fullShare.right k (XS m ρ c) ∗ cred (tallyAt (cell (0, k) c) () N))) ∗ owesE c (owY c allK)) := by
  iintro ⟨#HR, Hx, Hs, Hr, Ho, HtX, HtY, Hcb, Hab, Ht0, Ht1, HO⟩
  ihave Hs' := (sepL_head _).1 $$ Hs
  icases Hs' with ⟨Hs0, Hs⟩
  unfold phaseX
  iapply (runs_step (stage_runs m ρ c 0)) $$ [Hx Hs0]
  · isplitl [Hx] <;> iassumption
  iintro ⟨Hx, Hs0⟩
  unfold O₀
  iapply (runs_step (signalX_runs m ρ K c (O₁ c))) $$ [Hr HtX HO]
  · isplitr; · iexact HR
    isplitl [Hr]; · iexact Hr
    isplitl [HtX] <;> iassumption
  iintro HO
  unfold O₁
  iapply (runs_step (signalY_runs m ρ K c (O₂ c))) $$ [Ho HtY HO]
  · isplitr; · iexact HR
    isplitl [Ho]; · iexact Ho
    isplitl [HtY] <;> iassumption
  iintro HO
  iapply (runs_step (waitBar_runs m ρ K c)) $$ [Hcb Hab HO]
  · isplitr; · iexact HR
    isplitl [Hcb]; · iexact Hcb
    isplitl [Hab] <;> iassumption
  unfold barPay O₂
  rw [if_neg Bool.false_ne_true, if_pos rfl]
  iintro ⟨Hr, Hy, Hz, HO⟩
  ihave Hr' := (sepL_head _).1 $$ Hr
  icases Hr' with ⟨Hr0, Hr⟩
  ihave Ht0' := (sepL_head _).1 $$ Ht0
  icases Ht0' with ⟨Ht00, Ht0⟩
  ihave Ht1' := (sepL_head _).1 $$ Ht1
  icases Ht1' with ⟨Ht10, Ht1⟩
  iapply (runs_step (sendX_runs m ρ K c 0 (owY c allK + owX c tailK))) $$ [Hs0 Hr0 Ht00 Ht10 HO]
  · isplitr; · iexact HR
    isplitl [Hs0]; · iexact Hs0
    isplitl [Hr0]; · iexact Hr0
    isplitl [Ht00]; · iexact Ht00
    isplitl [Ht10]; · iexact Ht10
    iapply (owes_peel c (owY c allK) 0 tailK); iexact HO
  iintro ⟨Hs0, Hc0, HO⟩
  iapply (runs_last (runs_loop_with (G := records m ρ K)
    (A := fun k => iprop((∃ f, sPts c fullShare k f) ∗ (∃ f, rPts (xn c) k f) ∗ dutyTok ER (cell (0, k) c) 0 false ∗ dutyTok ER (cell (1, k) (xn c)) 0 false))
    (R := fun l => iprop(xPts m ρ c ∗ owesE c (owY c allK + owX c l))) (turnX m ρ K c) tailK)) $$ [Hs Hr Ht0 Ht1 Hx HO]
  · isplitr; · iexact HR
    isplitl [Hs Hr Ht0 Ht1]
    · iapply (sepL_sep tailK _ _).2
      isplitl [Hs]; · iexact Hs
      iapply (sepL_sep tailK _ _).2
      isplitl [Hr]; · iexact Hr
      iapply (sepL_sep tailK _ _).2
      isplitl [Ht0] <;> iassumption
    isplitl [Hx] <;> iassumption
  iintro ⟨HB, Hx, HO⟩
  isplitl [Hx]; · iexact Hx
  isplitl [Hy]; · iexact Hy
  isplitl [Hz]; · iexact Hz
  isplitl [Hs0 Hc0 HB]
  · iapply (show iprop((sPts c fullShare.right 0 (XS m ρ c) ∗ cred (tallyAt (cell (0, 0) c) () N))
        ∗ sepL tailK (fun k => iprop(sPts c fullShare.right k (XS m ρ c) ∗ cred (tallyAt (cell (0, k) c) () N))))
      ⊢ sepL allK (fun k => iprop(sPts c fullShare.right k (XS m ρ c) ∗ cred (tallyAt (cell (0, k) c) () N))) from .rfl)
    isplitl [Hs0 Hc0]
    · isplitl [Hs0] <;> iassumption
    iexact HB
  iapply (show (owesE c (owY c allK + owX c []) : sProp 𝕄) ⊢ owesE c (owY c allK) from by
    rw [show owX c [] = 0 from rfl, add_zero])
  iexact HO

/-! ## The exchange along the second axis -/

theorem phaseY_runs (c : Dev nD) :
    iprop(records m ρ K ∗ sepL allK (fun k => sPts c fullShare.right k (XS m ρ c))
        ∗ sepL allK (fun k => cred (tallyAt (cell (1, k) c) () N)) ∗ sepL allK (fun k => atPos ER (cell (1, k) c) 0 ∅ 0)
        ∗ sepL allK (fun k => iprop(∃ f, oPts c (half c) k f)) ∗ sepL allK (fun k => iprop(∃ f, oPts (yn c) (half c) k f))
        ∗ sepL allK (fun k => dutyTok ER (cell (2, k) c) 0 false) ∗ sepL allK (fun k => dutyTok ER (cell (3, k) (yn c)) 0 false)
        ∗ sepL allK (fun k => atPos ER (cell (2, k) c) 0 ∅ 0)
        ∗ sepL allK (fun k => cred (tallyAt (cell (3, k) c) () N)) ∗ sepL allK (fun k => atPos ER (cell (3, k) c) 0 ∅ 0)
        ∗ owesE c (owY c allK))
      ⊢ runs c (phaseY (half c) c) iprop(sepL allK (fun k => sPts c fullShare.right k (XS m ρ c)) ∗ sepL allK (fun k => rPts c k (XS m ρ (xn c)))
          ∗ sepL allK (fun k => semVal (cell (1, k) c) 0)
          ∗ sepL allK (fun k => oPts c (half c) k (OUT m ρ c)) ∗ sepL allK (fun k => oPts c (half (yn c)) k (OUT m ρ c))
          ∗ sepL allK (fun k => semVal (cell (2, k) c) 0) ∗ sepL allK (fun k => semVal (cell (3, k) c) 0) ∗ owesE c 0) := by
  iintro ⟨#HR, Hs, Hc1, Ha1, Ho, Hy, Ht2, Ht3, Ha2, Hc3, Ha3, HO⟩
  unfold phaseY
  iapply (runs_step (runs_loop_with (G := records m ρ K)
    (A := fun k => iprop(sPts c fullShare.right k (XS m ρ c) ∗ cred (tallyAt (cell (1, k) c) () N) ∗ atPos ER (cell (1, k) c) 0 ∅ 0
        ∗ (∃ f, oPts c (half c) k f) ∗ (∃ f, oPts (yn c) (half c) k f)
        ∗ dutyTok ER (cell (2, k) c) 0 false ∗ dutyTok ER (cell (3, k) (yn c)) 0 false))
    (R := fun l => owesE c (owY c l)) (fun k l => .trans (by
      iintro ⟨HR, ⟨H1, H2, H3, H4, H5, H6, H7⟩, HO⟩
      isplitl [HR]; · iexact HR
      isplitl [H1]; · iexact H1
      isplitl [H2]; · iexact H2
      isplitl [H3]; · iexact H3
      isplitl [H4]; · iexact H4
      isplitl [H5]; · iexact H5
      isplitl [H6]; · iexact H6
      isplitl [H7] <;> iassumption) (sumSend_runs m ρ K c k l)) allK)) $$ [Hs Hc1 Ha1 Ho Hy Ht2 Ht3 HO]
  · isplitr; · iexact HR
    isplitr [HO]
    · iapply (sepL_sep allK _ _).2
      isplitl [Hs]; · iexact Hs
      iapply (sepL_sep allK _ _).2
      isplitl [Hc1]; · iexact Hc1
      iapply (sepL_sep allK _ _).2
      isplitl [Ha1]; · iexact Ha1
      iapply (sepL_sep allK _ _).2
      isplitl [Ho]; · iexact Ho
      iapply (sepL_sep allK _ _).2
      isplitl [Hy]; · iexact Hy
      iapply (sepL_sep allK _ _).2
      isplitl [Ht2] <;> iassumption
    iexact HO
  iintro ⟨HB, HO⟩
  ihave HB1 := (sepL_sep allK _ _).1 $$ HB
  icases HB1 with ⟨Hs, HB⟩
  ihave HB1 := (sepL_sep allK _ _).1 $$ HB
  icases HB1 with ⟨Hr, HB⟩
  ihave HB1 := (sepL_sep allK _ _).1 $$ HB
  icases HB1 with ⟨Hz1, Hc2⟩
  iapply (runs_last (runs_loop_with (G := records m ρ K)
    (A := fun k => iprop(cred (tallyAt (cell (2, k) c) () N) ∗ atPos ER (cell (2, k) c) 0 ∅ 0
        ∗ cred (tallyAt (cell (3, k) c) () N) ∗ atPos ER (cell (3, k) c) 0 ∅ 0))
    (R := fun _ => owesE c 0) (fun k l => .trans (by
      iintro ⟨HR, ⟨H1, H2, H3, H4⟩, HO⟩
      isplitl [HR]; · iexact HR
      isplitl [H1]; · iexact H1
      isplitl [H2]; · iexact H2
      isplitl [H3]; · iexact H3
      isplitl [H4] <;> iassumption) (finishY_runs m ρ K c k)) allK)) $$ [Hc2 Ha2 Hc3 Ha3 HO]
  · isplitr; · iexact HR
    isplitr [HO]
    · iapply (sepL_sep allK _ _).2
      isplitl [Hc2]; · iexact Hc2
      iapply (sepL_sep allK _ _).2
      isplitl [Ha2]; · iexact Ha2
      iapply (sepL_sep allK _ _).2
      isplitl [Hc3] <;> iassumption
    iexact HO
  iintro ⟨HB, HO⟩
  ihave HB1 := (sepL_sep allK _ _).1 $$ HB
  icases HB1 with ⟨Ho, HB⟩
  ihave HB1 := (sepL_sep allK _ _).1 $$ HB
  icases HB1 with ⟨Ho', HB⟩
  ihave HB1 := (sepL_sep allK _ _).1 $$ HB
  icases HB1 with ⟨Hz2, Hz3⟩
  isplitl [Hs]; · iexact Hs
  isplitl [Hr]; · iexact Hr
  isplitl [Hz1]; · iexact Hz1
  isplitl [Ho]; · iexact Ho
  isplitl [Ho']; · iexact Ho'
  isplitl [Hz2]; · iexact Hz2
  isplitl [Hz3] <;> iassumption

/-- A device takes the branch of its own column. -/
theorem middle_eq (c : Dev nD) : (middle c : Step F) = phaseY (half c) c >>= fun _ => loop finishX [0, 1, 2] := by
  unfold middle
  by_cases h : half c = 0
  · rw [dif_pos ((cond1_iff c).mpr h), dif_neg (fun h' => by rw [(cond2_iff c).mp h'] at h; exact absurd h (by decide)), h]
  · have h1 : half c = 1 := by
      have := (half c).isLt
      have h0 : (half c).val ≠ 0 := fun e => h (Fin.ext e)
      exact Fin.ext (by show (half c).val = 1; omega)
    rw [dif_neg (fun h' => h ((cond1_iff c).mp h')), dif_pos ((cond2_iff c).mpr h1), h1]

theorem finishX_loop (c : Dev nD) (l : List (Fin 16)) :
    iprop(records m ρ K ∗ sepL l (fun k => iprop(cred (tallyAt (cell (0, k) c) () N) ∗ atPos ER (cell (0, k) c) 0 ∅ 0)) ∗ owesE c 0)
      ⊢ runs c (loop finishX l) iprop(sepL l (fun k => iprop(sPts c fullShare.left k (XS m ρ c) ∗ semVal (cell (0, k) c) 0)) ∗ owesE c 0) :=
  runs_loop_with (G := records m ρ K) (R := fun _ => owesE c 0) (fun k l => .trans (by
      iintro ⟨HR, ⟨H1, H2⟩, HO⟩
      isplitl [HR]; · iexact HR
      isplitl [H1]; · iexact H1
      isplitl [H2] <;> iassumption) (finishX_runs m ρ K c k)) l

/-- What device `c`'s body starts from, all buffers in pieces. -/
def pieces₀ (c : Dev nD) : sProp 𝕄 :=
  iprop(xPts m ρ c ∗ sepL allK (fun k => iprop(∃ f, sPts c fullShare k f)) ∗ sepL allK (fun k => iprop(∃ f, rPts c k f))
    ∗ sepL allK (fun k => iprop(∃ f, oPts c (half c) k f)) ∗ sepL allK (fun k => iprop(∃ f, oPts c (half (yn c)) k f)))

/-- The positions, tokens and credits device `c`'s body starts from. -/
def ghost₀ (c : Dev nD) : sProp 𝕄 :=
  iprop(atPos ER (barCell c) 0 ∅ 0 ∗ sepL allK (fun k => atPos ER (cell (0, k) c) 0 ∅ 0) ∗ sepL allK (fun k => atPos ER (cell (1, k) c) 0 ∅ 0)
    ∗ sepL allK (fun k => atPos ER (cell (2, k) c) 0 ∅ 0) ∗ sepL allK (fun k => atPos ER (cell (3, k) c) 0 ∅ 0)
    ∗ dutyTok ER (barCell (xn c)) 0 false ∗ dutyTok ER (barCell (yn c)) 0 true
    ∗ sepL allK (fun k => dutyTok ER (cell (0, k) c) 0 false) ∗ sepL allK (fun k => dutyTok ER (cell (1, k) (xn c)) 0 false)
    ∗ sepL allK (fun k => dutyTok ER (cell (2, k) c) 0 false) ∗ sepL allK (fun k => dutyTok ER (cell (3, k) (yn c)) 0 false))
def creds₀ (c : Dev nD) : sProp 𝕄 :=
  iprop(cred (tallyAt (barCell c) () 2) ∗ sepL allK (fun k => cred (tallyAt (cell (1, k) c) () N)) ∗ sepL allK (fun k => cred (tallyAt (cell (3, k) c) () N)))

/-- What it ends with: the buffers in pieces holding their final contents, -/
def pieces₁ (c : Dev nD) : sProp 𝕄 :=
  iprop(xPts m ρ c ∗ sepL allK (fun k => iprop(sPts c fullShare.left k (XS m ρ c) ∗ sPts c fullShare.right k (XS m ρ c)))
    ∗ sepL allK (fun k => rPts c k (XS m ρ (xn c)))
    ∗ sepL allK (fun k => oPts c (half c) k (OUT m ρ c)) ∗ sepL allK (fun k => oPts c (half (yn c)) k (OUT m ρ c)))
/-- and every counter at zero. -/
def zeros (c : Dev nD) : sProp 𝕄 :=
  iprop(semVal (barCell c) 0 ∗ sepL allK (fun k => semVal (cell (0, k) c) 0) ∗ sepL allK (fun k => semVal (cell (1, k) c) 0)
    ∗ sepL allK (fun k => semVal (cell (2, k) c) 0) ∗ sepL allK (fun k => semVal (cell (3, k) c) 0))

theorem chunked_runs (c : Dev nD) :
    iprop(records m ρ K ∗ ghost₀ c ∗ creds₀ c ∗ pieces₀ m ρ c ∗ owesE c (O₀ c))
      ⊢ runs c (chunked c) iprop(pieces₁ m ρ c ∗ zeros c ∗ owesE c 0) := by
  unfold ghost₀ creds₀ pieces₀
  iintro ⟨#HR, ⟨Hab, Ha0, Ha1, Ha2, Ha3, HtX, HtY, Ht0, Ht1, Ht2, Ht3⟩, ⟨Hcb, Hc1, Hc3⟩, ⟨Hx, Hs, Hr, Ho, Ho'⟩, HO⟩
  unfold chunked
  rw [middle_eq c]
  iapply (runs_step (phaseX_runs m ρ K c)) $$ [Hx Hs Hr Ho' HtX HtY Hcb Hab Ht0 Ht1 HO]
  · isplitr; · iexact HR
    isplitl [Hx]; · iexact Hx
    isplitl [Hs]; · iexact Hs
    isplitl [Hr]; · iexact Hr
    isplitl [Ho']; · iexact Ho'
    isplitl [HtX]; · iexact HtX
    isplitl [HtY]; · iexact HtY
    isplitl [Hcb]; · iexact Hcb
    isplitl [Hab]; · iexact Hab
    isplitl [Ht0]; · iexact Ht0
    isplitl [Ht1] <;> iassumption
  iintro ⟨Hx, Hy, Hzb, HB, HO⟩
  ihave HB1 := (sepL_sep allK _ _).1 $$ HB
  icases HB1 with ⟨Hs, Hc0⟩
  ihave HX := (sepL_sep allK (fun k => cred (tallyAt (cell (0, k) c) () N)) (fun k => atPos ER (cell (0, k) c) 0 ∅ 0)).2 $$ [Hc0 Ha0]
  · isplitl [Hc0] <;> iassumption
  ihave HX2 := (sepL_cut _).1 $$ HX
  icases HX2 with ⟨HXa, HXb⟩
  iapply (runs_step (R := iprop((sepL [0, 1, 2] (fun k => iprop(sPts c fullShare.left k (XS m ρ c) ∗ semVal (cell (0, k) c) 0)) ∗ owesE c 0)
      ∗ (sepL allK (fun k => sPts c fullShare.right k (XS m ρ c)) ∗ sepL allK (fun k => rPts c k (XS m ρ (xn c)))
          ∗ sepL allK (fun k => semVal (cell (1, k) c) 0)
          ∗ sepL allK (fun k => oPts c (half c) k (OUT m ρ c)) ∗ sepL allK (fun k => oPts c (half (yn c)) k (OUT m ρ c))
          ∗ sepL allK (fun k => semVal (cell (2, k) c) 0) ∗ sepL allK (fun k => semVal (cell (3, k) c) 0)))) .rfl) $$ [Hs Hc1 Ha1 Ho Hy Ht2 Ht3 Ha2 Hc3 Ha3 HO HXa]
  · iapply (runs_step (phaseY_runs m ρ K c)) $$ [Hs Hc1 Ha1 Ho Hy Ht2 Ht3 Ha2 Hc3 Ha3 HO]
    · isplitr; · iexact HR
      isplitl [Hs]; · iexact Hs
      isplitl [Hc1]; · iexact Hc1
      isplitl [Ha1]; · iexact Ha1
      isplitl [Ho]; · iexact Ho
      isplitl [Hy]; · iexact Hy
      isplitl [Ht2]; · iexact Ht2
      isplitl [Ht3]; · iexact Ht3
      isplitl [Ha2]; · iexact Ha2
      isplitl [Hc3]; · iexact Hc3
      isplitl [Ha3] <;> iassumption
    iintro ⟨Hs, Hr, Hz1, Ho, Ho', Hz2, Hz3, HO⟩
    iapply (runs_last (finishX_loop m ρ K c [0, 1, 2])) $$ [HXa HO]
    · isplitr; · iexact HR
      isplitl [HXa] <;> iassumption
    iintro H
    isplitl [H]; · iexact H
    isplitl [Hs]; · iexact Hs
    isplitl [Hr]; · iexact Hr
    isplitl [Hz1]; · iexact Hz1
    isplitl [Ho]; · iexact Ho
    isplitl [Ho']; · iexact Ho'
    isplitl [Hz2] <;> iassumption
  iintro ⟨⟨HF, HO⟩, Hs, Hr, Hz1, Ho, Ho', Hz2, Hz3⟩
  iapply (runs_last (finishX_loop m ρ K c [3, 4, 5, 6, 7, 8, 9, 10, 11, 12, 13, 14, 15])) $$ [HXb HO]
  · isplitr; · iexact HR
    isplitl [HXb] <;> iassumption
  iintro ⟨HF', HO⟩
  ihave HFF := (sepL_cut (fun k => iprop(sPts c fullShare.left k (XS m ρ c) ∗ semVal (cell (0, k) c) 0))).2 $$ [HF HF']
  · isplitl [HF] <;> iassumption
  ihave HF2 := (sepL_sep allK _ _).1 $$ HFF
  icases HF2 with ⟨HsL, Hz0⟩
  unfold pieces₁ zeros
  isplitl [Hx HsL Hs Hr Ho Ho']
  · isplitl [Hx]; · iexact Hx
    isplitl [HsL Hs]
    · iapply (sepL_sep allK _ _).2
      isplitl [HsL] <;> iassumption
    isplitl [Hr]; · iexact Hr
    isplitl [Ho] <;> iassumption
  isplitr [HO]
  · isplitl [Hzb]; · iexact Hzb
    isplitl [Hz0]; · iexact Hz0
    isplitl [Hz1]; · iexact Hz1
    isplitl [Hz2] <;> iassumption
  iexact HO

end Cert.KernelIdeal.Exchange

end
-- ==== Proof.KernelIdeal.Deal.lean ====
/-
What the launch deals each device.

Every counter of every device starts at zero under one invariant; each counter's rounds, positions and tokens are made once
for the whole mesh and dealt out, the tokens to the device that pays for them: the arrival tokens and the barrier tokens
cross to the neighbours. The launch also credits each device with what its neighbours owe it.
-/
module

public import proofs.«01_k».proof.Proof.KernelIdeal.Body

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Conjunctions over the counters of a device -/

omit [FloatOps F] in
/-- Over an optional index: the absent one and the present ones. -/
theorem bigSep_opt {I : Type} [Fintype I] [DecidableEq I] (Φ : Option I → sProp 𝕄) :
    bigSep Finset.univ Φ = iprop(Φ none ∗ bigSep Finset.univ fun i => Φ (some i)) := by
  have h : (Finset.univ : Finset (Option I)) = insert none (Finset.univ.map Function.Embedding.some) := by
    ext o; cases o <;> simp
  rw [h]
  refine (BI.bigSep_insert (by simp)).trans ?_
  rw [BI.bigSep_map]; rfl

omit [FloatOps F] in
/-- Over the transfer counters: the four arrays one after the other. -/
theorem bigSep_slots (Φ : Fin 4 × Fin 16 → sProp 𝕄) :
    bigSep Finset.univ Φ = iprop(sepL allK (fun k => Φ (0, k)) ∗ sepL allK (fun k => Φ (1, k)) ∗ sepL allK (fun k => Φ (2, k))
      ∗ sepL allK (fun k => Φ (3, k))) := by
  rw [bigSep_univ_prod, bigSep_univ_eq_bigSepL [0, 1, 2, 3] (by decide) (by decide)]
  show iprop(bigSep Finset.univ (fun k => Φ (0, k)) ∗ bigSep Finset.univ (fun k => Φ (1, k)) ∗ bigSep Finset.univ (fun k => Φ (2, k))
      ∗ bigSep Finset.univ (fun k => Φ (3, k))) = _
  rw [sepL_all, sepL_all, sepL_all, sepL_all]

/-! ## The counters at launch -/

/-- The kernel's own semaphores: the transfer counters. -/
def osem : Fin 4 × Fin 16 → SemLoc sig := fun p => .dma (dsem p)

theorem ownSemFacts : Pipeline.OwnSemFacts cfg0.spec osem where
  isScoped p := by revert p; decide
  inj p p' h := dsem_injective (SemLoc.dma.inj h)
  disj p w s h := by
    have h1 : slotOf (dsem p) = slotOf ((cfg0.spec w).sem s) := congrArg slotOf (SemLoc.dma.inj h)
    rw [slotOf_dsem] at h1
    have h2 : ∀ (w : Fin 2) (s : Fin (spec0 w).nbuf), slotOf ((spec0 w).sem s) = none := by decide
    exact absurd (h1.trans (h2 w s)) (by simp)

omit [FloatOps F] in
/-- The barrier counter is the one semaphore that outlives the kernel. -/
theorem unscopedSems0_eq (c : Dev nD) : (unscopedSems0 c : sProp 𝕄) = semVal (barCell c) 0 := by
  unfold unscopedSems0
  rw [bigSep_eq_bigSepL_of_eq [SemLoc.reg barS] (by decide) (by decide)]
  rfl

omit [FloatOps F] in
/-- All of a device's counters at zero. -/
theorem sems_eq (c : Dev nD) :
    iprop(unscopedSems0 c ∗ Pipeline.ownSems0 (Ix := Unit) (Name := ℕ) (U := UU) (Lvl := ℕ) (Val := Elt F) (τ := τ) osem c)
      = (bigSep Finset.univ fun o : Option (Fin 4 × Fin 16) => semVal (kcell (c, o)) 0 : sProp 𝕄) := by
  rw [unscopedSems0_eq, bigSep_opt]; rfl

omit [FloatOps F] in
theorem zeros_eq (c : Dev nD) :
    (zeros c : sProp 𝕄) = iprop(unscopedSems0 c ∗ Pipeline.ownSems0 (Ix := Unit) (Name := ℕ) (U := UU) (Lvl := ℕ) (Val := Elt F) (τ := τ) osem c) := by
  rw [sems_eq, bigSep_opt, bigSep_slots]; rfl

/-! ## The rounds made for the machine -/

/-- Every counter of every device. -/
def cellSet : Finset (GSem nD τ sig) := Finset.univ.map ⟨kcell, kcell_injective⟩

/-- The tokens made: one `false` token for each counter, and a `true` token for each barrier. -/
def tokName : Dev nD × Option (Option (Fin 4 × Fin 16)) → GSem nD τ sig × ℕ × Bool
  | (c, none) => (barCell c, 0, true)
  | (c, some o) => (kcell (c, o), 0, false)

theorem tokName_injective : Function.Injective tokName := by
  rintro ⟨c, _ | o⟩ ⟨c', _ | o'⟩ h
  · rw [barCell_inj.mp (congrArg Prod.fst h)]
  · exact absurd (congrArg (fun x : GSem nD τ sig × ℕ × Bool => x.2.2) h) (by simp [tokName])
  · exact absurd (congrArg (fun x : GSem nD τ sig × ℕ × Bool => x.2.2) h) (by simp [tokName])
  · have h1 : (c, o) = (c', o') := kcell_injective (congrArg Prod.fst h)
    rw [(Prod.mk.inj h1).1, (Prod.mk.inj h1).2]

def tokSet : Finset (GSem nD τ sig × ℕ × Bool) := Finset.univ.map ⟨tokName, tokName_injective⟩

/-- The launch element: the staging pipeline's part and the exchange's. -/
def u₀ : UU := (initOf (Pipeline.cells cfgs cellOf_inj) (Pipeline.launchToks cfgs cellOf_inj), initOf cellSet tokSet)

/-- The tokens of device `c`'s own counters. -/
def ownToks (c : Dev nD) : sProp 𝕄 :=
  iprop(dutyTok ER (barCell c) 0 true ∗ dutyTok ER (barCell c) 0 false
    ∗ sepL allK (fun k => dutyTok ER (cell (0, k) c) 0 false) ∗ sepL allK (fun k => dutyTok ER (cell (1, k) c) 0 false)
    ∗ sepL allK (fun k => dutyTok ER (cell (2, k) c) 0 false) ∗ sepL allK (fun k => dutyTok ER (cell (3, k) c) 0 false))

/-- The tokens device `c` pays with. -/
def payToks (c : Dev nD) : sProp 𝕄 :=
  iprop(dutyTok ER (barCell (xn c)) 0 false ∗ dutyTok ER (barCell (yn c)) 0 true
    ∗ sepL allK (fun k => dutyTok ER (cell (0, k) c) 0 false) ∗ sepL allK (fun k => dutyTok ER (cell (1, k) (xn c)) 0 false)
    ∗ sepL allK (fun k => dutyTok ER (cell (2, k) c) 0 false) ∗ sepL allK (fun k => dutyTok ER (cell (3, k) (yn c)) 0 false))

/-- Device `c`'s positions on its own counters. -/
def positions (c : Dev nD) : sProp 𝕄 := bigSep Finset.univ fun o : Option (Fin 4 × Fin 16) => atPos ER (kcell (c, o)) 0 ∅ 0

/-- What the launch element gives for device `c`'s counters. -/
def dealt (c : Dev nD) : sProp 𝕄 :=
  iprop((bigSep Finset.univ fun o : Option (Fin 4 × Fin 16) => roundState ER (Rd m ρ) (kcell (c, o)) 0)
    ∗ positions c ∗ (bigSep Finset.univ fun o : Option (Fin 4 × Fin 16) => reached ER (kcell (c, o)) 0) ∗ ownToks c)

theorem deal : BI.own (ER (initOf cellSet tokSet)) ⊢ (|==> bigSep Finset.univ (dealt m ρ) : sProp 𝕄) := by
  have hX (Φ : GSem nD τ sig → sProp 𝕄) : bigSep cellSet Φ = bigSep Finset.univ fun c : Dev nD => bigSep Finset.univ fun o => Φ (kcell (c, o)) := by
    unfold cellSet; rw [BI.bigSep_map, bigSep_univ_prod]; rfl
  have hT : bigSep tokSet (fun x => (dutyTok ER x.1 x.2.1 x.2.2 : sProp 𝕄)) = bigSep Finset.univ fun c : Dev nD => ownToks c := by
    unfold tokSet; rw [BI.bigSep_map, bigSep_univ_prod]
    exact bigSep_congr fun c _ => by rw [bigSep_opt, bigSep_opt, bigSep_slots]; rfl
  iintro H
  imod (Rounds.fund ER (Rd m ρ) cellSet tokSet) $$ H with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt positions
  rw [bigSep_sep', bigSep_sep', bigSep_sep']
  isplitl [Hst']; · iexact Hst'
  isplitl [Hat']; · iexact Hat'
  isplitl [Hr'] <;> iassumption

/-- A device's counters at zero, put under their invariants. -/
theorem cover (c : Dev nD) :
    iprop(Pipeline.ownSems0 (Ix := Unit) (Name := ℕ) (U := UU) (Lvl := ℕ) (Val := Elt F) (τ := τ) osem c ∗ unscopedSems0 c ∗ dealt m ρ c)
      ⊢ |={Set.univ}=> iprop((bigSep Finset.univ fun o => iprop(∃ κ : ℕ, cellInv ER (Rd m ρ) κ (kcell (c, o))))
          ∗ (bigSep Finset.univ fun o => reached ER (kcell (c, o)) 0) ∗ positions c ∗ ownToks c) := by
  unfold dealt
  iintro ⟨Hos, Hus, Hst, Hat, Hr, Htok⟩
  ihave Hv := (Entails.of_eq (sems_eq (F := F) c)) $$ [Hos Hus]
  · isplitl [Hus] <;> iassumption
  have hinv : iprop((bigSep Finset.univ fun o : Option (Fin 4 × Fin 16) => semVal (kcell (c, o)) 0)
        ∗ bigSep Finset.univ fun o : Option (Fin 4 × Fin 16) => roundState ER (Rd m ρ) (kcell (c, o)) 0)
      ⊢ (|={Set.univ}=> bigSep Finset.univ fun o => iprop(∃ κ : ℕ, cellInv ER (Rd m ρ) κ (kcell (c, o))) : sProp 𝕄) := by
    rw [← bigSep_sep']
    exact (bigSep_mono fun o _ => (Rounds.body_intro ER (Rd m ρ) (kcell (c, o))).trans inv_alloc).trans (bigSep_fupd _ _)
  imod hinv $$ [Hv Hst] with HI
  · isplitl [Hv] <;> iassumption
  imodintro
  isplitl [HI]; · iexact HI
  isplitl [Hr]; · iexact Hr
  isplitl [Hat] <;> iassumption

/-! ## The tokens cross to the neighbours -/

omit [FloatOps F] in
theorem toks_cross : (bigSep Finset.univ fun c : Dev nD => (ownToks c : sProp 𝕄)) ⊢ bigSep Finset.univ fun c : Dev nD => payToks c := by
  unfold ownToks payToks
  rw [bigSep_sep', bigSep_sep', bigSep_sep', bigSep_sep', bigSep_sep', bigSep_sep', bigSep_sep', bigSep_sep', bigSep_sep', bigSep_sep',
    bigSep_univ_equiv ynEquiv (fun c : Dev nD => (dutyTok ER (barCell c) 0 true : sProp 𝕄)),
    bigSep_univ_equiv xnEquiv (fun c : Dev nD => (dutyTok ER (barCell c) 0 false : sProp 𝕄)),
    bigSep_univ_equiv xnEquiv (fun c : Dev nD => (sepL allK (fun k => dutyTok ER (cell (1, k) c) 0 false) : sProp 𝕄)),
    bigSep_univ_equiv ynEquiv (fun c : Dev nD => (sepL allK (fun k => dutyTok ER (cell (3, k) c) 0 false) : sProp 𝕄))]
  iintro ⟨H1, H2, H3, H4, H5, H6⟩
  isplitl [H2]; · iexact H2
  isplitl [H1]; · iexact H1
  isplitl [H3]; · iexact H3
  isplitl [H4]; · iexact H4
  isplitl [H5]; · iexact H5
  iexact H6

/-- Every counter's invariant under the names `K`, and its round 0 reached. -/
def known (K : Dev nD × Option (Fin 4 × Fin 16) → ℕ) : sProp 𝕄 :=
  iprop((bigSep Finset.univ fun ck : Dev nD × Option (Fin 4 × Fin 16) => cellInv ER (Rd m ρ) (K ck) (kcell ck))
    ∗ bigSep Finset.univ fun ck : Dev nD × Option (Fin 4 × Fin 16) => reached ER (kcell ck) 0)

instance known_persistent (K) : BI.Persistent (known m ρ K) := by unfold known; infer_instance

theorem records_intro (K) : iprop(known m ρ K ∗ levAts L lv) ⊢ records m ρ K := by
  unfold known records
  iintro ⟨⟨H1, H2⟩, H3⟩
  isplitl [H1]; · iexact H1
  isplitl [H2] <;> iassumption

/-- What device `c` starts from, counters and tokens. -/
def given (c : Dev nD) : sProp 𝕄 := iprop(∃ K, known m ρ K ∗ ghost₀ c)

omit [FloatOps F] in
theorem ghost_intro (c : Dev nD) : iprop(positions c ∗ payToks c) ⊢ (ghost₀ c : sProp 𝕄) := by
  unfold positions payToks ghost₀
  rw [bigSep_opt, bigSep_slots]
  iintro ⟨⟨H1, H2, H3, H4, H5⟩, HT⟩
  isplitl [H1]; · iexact H1
  isplitl [H2]; · iexact H2
  isplitl [H3]; · iexact H3
  isplitl [H4]; · iexact H4
  isplitl [H5]; · iexact H5
  iexact HT

omit [FloatOps F] in
/-- What holds throughout may be used at every index. -/
theorem bigSep_using {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine .trans ?_ (bigSep_mono h)
  rw [bigSep_sep']
  exact sep_mono_left (BI.bigSep_of_persistent S R)

theorem share_out :
    (bigSep Finset.univ fun c : Dev nD => iprop((bigSep Finset.univ fun o => iprop(∃ κ : ℕ, cellInv ER (Rd m ρ) κ (kcell (c, o))))
          ∗ (bigSep Finset.univ fun o => reached ER (kcell (c, o)) 0) ∗ positions c ∗ ownToks c) : sProp 𝕄)
      ⊢ bigSep Finset.univ (given m ρ) := by
  rw [bigSep_sep', bigSep_sep', bigSep_sep',
    ← bigSep_univ_prod (fun ck : Dev nD × Option (Fin 4 × Fin 16) => iprop(∃ κ : ℕ, cellInv ER (Rd m ρ) κ (kcell ck))),
    ← bigSep_univ_prod (fun ck : Dev nD × Option (Fin 4 × Fin 16) => (reached ER (kcell ck) 0 : sProp 𝕄))]
  iintro ⟨HI, HR, Hat, Htok⟩
  ihave HK := (BI.bigSep_exists_pi Finset.univ (fun (ck : Dev nD × Option (Fin 4 × Fin 16)) (κ : ℕ) => (cellInv ER (Rd m ρ) κ (kcell ck) : sProp 𝕄))) $$ HI
  icases HK with ⟨%K, HI⟩
  ihave Htk := (toks_cross (F := F)) $$ Htok
  iapply (bigSep_using (R := known m ρ K) (Φ := fun c => iprop(positions c ∗ payToks c)) fun c _ => ?_)
  · iintro ⟨HK, H⟩
    unfold given
    iexists K
    isplitl [HK]; · iexact HK
    iapply (ghost_intro (F := F) c); iexact H
  · rw [bigSep_sep']
    unfold known
    isplitl [HI HR]
    · isplitl [HI] <;> iassumption
    · isplitl [Hat] <;> iassumption

/-- All counters of all devices at once. -/
theorem glob : (bigSep Finset.univ fun c => iprop(Pipeline.ownSems0 (Ix := Unit) (Name := ℕ) (U := UU) (Lvl := ℕ) (Val := Elt F) (τ := τ) osem c ∗ unscopedSems0 c ∗ dealt m ρ c) : sProp 𝕄)
    ⊢ |={Set.univ}=> bigSep Finset.univ (given m ρ) :=
  ((bigSep_mono fun c _ => cover m ρ c).trans (bigSep_fupd _ _)).trans (BI.fupd_mono (share_out m ρ))

/-! ## The launch credit -/

theorem owX_at (c d : Dev nD) (k : Fin 16) (l : List (Fin 16)) :
    owX c l (cell (1, k) d) () = if d = xn c then l.count k * N else 0 := by
  induction l with
  | nil => simp [owX]
  | cons k' l ih =>
    unfold owX
    rw [Pi.add_apply, Finsupp.add_apply, tallyAt_apply, ih, List.count_cons]
    simp only [cell_inj]
    by_cases hd : d = xn c <;> by_cases hk : k = k'
    · subst hk; simp [hd, add_mul]
    · simp [hd, hk, Ne.symm hk]
    · simp [hd]
    · simp [hd]

theorem owY_at (c d : Dev nD) (k : Fin 16) (l : List (Fin 16)) :
    owY c l (cell (3, k) d) () = if d = yn c then l.count k * N else 0 := by
  induction l with
  | nil => simp [owY]
  | cons k' l ih =>
    unfold owY
    rw [Pi.add_apply, Finsupp.add_apply, tallyAt_apply, ih, List.count_cons]
    simp only [cell_inj]
    by_cases hd : d = yn c <;> by_cases hk : k = k'
    · subst hk; simp [hd, add_mul]
    · simp [hd, hk, Ne.symm hk]
    · simp [hd]
    · simp [hd]

theorem count_all (k : Fin 16) : (allK : List (Fin 16)).count k = 1 := by revert k; decide

theorem owX_zero (c : Dev nD) (l : List (Fin 16)) (g : GSem nD τ sig) (h : ∀ k, g ≠ cell (1, k) (xn c)) : owX c l g () = 0 :=
  Nat.eq_zero_of_not_pos fun hp => by obtain ⟨k, e⟩ := owX_pos hp; exact h k e
theorem owY_zero (c : Dev nD) (l : List (Fin 16)) (g : GSem nD τ sig) (h : ∀ k, g ≠ cell (3, k) (yn c)) : owY c l g () = 0 :=
  Nat.eq_zero_of_not_pos fun hp => by obtain ⟨k, e⟩ := owY_pos hp; exact h k e

theorem xn_swap (c d : Dev nD) : c = xn d ↔ d = xn c := by revert c d; decide
theorem yn_swap (c d : Dev nD) : c = yn d ↔ d = yn c := by revert c d; decide

theorem owed_came (d c : Dev nD) (k : Fin 16) : O₀ d (cell (1, k) c) () = if d = xn c then N else 0 := by
  unfold O₀ O₁ O₂
  rw [Pi.add_apply, Finsupp.add_apply, Pi.add_apply, Finsupp.add_apply, Pi.add_apply, Finsupp.add_apply, tallyAt_apply, tallyAt_apply,
    owY_zero _ _ _ (fun k' e => absurd (cell_inj.mp e).1 (by simp)), owX_at, count_all]
  simp [xn_swap c d, cell_ne_bar]
theorem owed_piece (d c : Dev nD) (k : Fin 16) : O₀ d (cell (3, k) c) () = if d = yn c then N else 0 := by
  unfold O₀ O₁ O₂
  rw [Pi.add_apply, Finsupp.add_apply, Pi.add_apply, Finsupp.add_apply, Pi.add_apply, Finsupp.add_apply, tallyAt_apply, tallyAt_apply,
    owX_zero _ _ _ (fun k' e => absurd (cell_inj.mp e).1 (by simp)), owY_at, count_all]
  simp [yn_swap c d, cell_ne_bar]
theorem owed_bar (d c : Dev nD) : O₀ d (barCell c) () = (if d = yn c then 1 else 0) + (if d = xn c then 1 else 0) := by
  unfold O₀ O₁ O₂
  rw [Pi.add_apply, Finsupp.add_apply, Pi.add_apply, Finsupp.add_apply, Pi.add_apply, Finsupp.add_apply, tallyAt_apply, tallyAt_apply,
    owX_zero _ _ _ (fun k' e => cell_ne_bar _ _ _ e.symm), owY_zero _ _ _ (fun k' e => cell_ne_bar _ _ _ e.symm)]
  simp [barCell_inj, xn_swap c d, yn_swap c d]

theorem launch_came (c : Dev nD) (k : Fin 16) :
    tallyOn (cell (1, k) c) (launchCredit (Pipeline.owing O₀) 0 (cell (1, k) c)) = (tallyAt (cell (1, k) c) () N : CellTallies nD τ sig Unit) := by
  unfold tallyAt; refine congrArg _ (Finsupp.ext fun u => ?_); cases u
  rw [Pipeline.launchCredit_owing, Finsupp.single_eq_same, Finset.sum_congr rfl fun d _ => owed_came d c k,
    Finset.sum_ite_eq' Finset.univ (xn c) fun _ => N, if_pos (Finset.mem_univ _)]
theorem launch_piece (c : Dev nD) (k : Fin 16) :
    tallyOn (cell (3, k) c) (launchCredit (Pipeline.owing O₀) 0 (cell (3, k) c)) = (tallyAt (cell (3, k) c) () N : CellTallies nD τ sig Unit) := by
  unfold tallyAt; refine congrArg _ (Finsupp.ext fun u => ?_); cases u
  rw [Pipeline.launchCredit_owing, Finsupp.single_eq_same, Finset.sum_congr rfl fun d _ => owed_piece d c k,
    Finset.sum_ite_eq' Finset.univ (yn c) fun _ => N, if_pos (Finset.mem_univ _)]
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (yn c) fun _ => 1, Finset.sum_ite_eq' Finset.univ (xn c) fun _ => 1, if_pos (Finset.mem_univ _), if_pos (Finset.mem_univ _)]

omit [FloatOps F] in
/-- The conjuncts at some of the indices. -/
theorem bigSep_keep {I J : Type} [Fintype I] [Fintype J] [DecidableEq J] (e : I ↪ J) (Φ : J → sProp 𝕄) :
    bigSep Finset.univ Φ ⊢ bigSep Finset.univ fun i => Φ (e i) := by
  rw [← BI.bigSep_map]
  exact BI.bigSep_subset (Finset.subset_univ _)

omit [FloatOps F] in
/-- Device `c`'s launch credit holds two units of its barrier and one transfer's credit at each arrival counter. -/
theorem creds (c : Dev nD) : (Pipeline.launchCred O₀ c : sProp 𝕄) ⊢ creds₀ c := by
  unfold Pipeline.launchCred creds₀
  iintro H
  ihave H' := (bigSep_keep (F := F) ⟨csem, csem_injective⟩ _) $$ H
  ihave H := (Entails.of_eq ((bigSep_opt _).trans (by rw [bigSep_slots]))) $$ H'
  icases H with ⟨HB, -, H1, -, H3⟩
  isplitl [HB]; · iapply (Entails.of_eq (congrArg cred (launch_bar c))); iexact HB
  isplitl [H1]
  · iapply (sepL_mono allK fun k => Entails.of_eq (congrArg cred (launch_came c k))); iexact H1
  · iapply (sepL_mono allK fun k => Entails.of_eq (congrArg cred (launch_piece c k))); iexact H3

end Cert.KernelIdeal.Exchange

end
-- ==== Proof.KernelIdeal.Launch.lean ====
/-
The run of the whole program.

The buffers a device is given whole are cut into the pieces its body works on, and put together again after it. With
`chunked_runs` this gives the staging pipeline's obligation for the body, and the launch theorem then gives the run: from
any memory with all counters at zero every execution ends, with every device's result buffer at `OUT`, its argument
unchanged, and all counters at zero.
-/
module

public import proofs.«01_k».proof.Proof.KernelIdeal.Deal
public import proofs.«01_k».proof.Proof.Gen.KernelIdeal.Points
public import Idealize.ShloMosaic.Lib.Pipeline.CollectiveSegs
public import Idealize.ShloMosaic.Lib.Quiescent

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## Whole buffers and their pieces -/

omit [FloatOps F] in
/-- The send buffer is its sixteen slots. -/
theorem send_slots (c : Dev nD) (f : Buf (Elt F) ((c : Thread nD τ).loc cc0_scratch0)) :
    ((((c : Thread nD τ).loc cc0_scratch0) ↦{fullShare} f) : sProp 𝕄) = sepL allK (fun k => sPts c fullShare k f) := by
  rw [← sepL_all]
  unfold sPts
  exact (congrArg (fun I => (((c : Thread nD τ).loc cc0_scratch0) ↦[I]{fullShare} f : sProp 𝕄)) covB.symm).trans
    (pointsTo_biUnion Finset.univ _ fun k _ k' _ h => disjB k k' h)

omit [FloatOps F] in
/-- The receive buffer is its sixteen slots. -/
theorem recv_slots (c : Dev nD) (f : Buf (Elt F) ((c : Thread nD τ).loc cc0_scratch1)) :
    ((((c : Thread nD τ).loc cc0_scratch1) ↦{fullShare} f) : sProp 𝕄) = sepL allK (fun k => rPts c k f) := by
  rw [← sepL_all]
  unfold rPts
  exact (congrArg (fun I => (((c : Thread nD τ).loc cc0_scratch1) ↦[I]{fullShare} f : sProp 𝕄)) covB.symm).trans
    (pointsTo_biUnion Finset.univ _ fun k _ k' _ h => disjB k k' h)

omit [FloatOps F] in
/-- A conjunction over the two halves: the device's own and its column neighbour's. -/
theorem bigSep_halves (c : Dev nD) (Φ : Fin 2 → sProp 𝕄) : bigSep Finset.univ Φ = iprop(Φ (half c) ∗ Φ (half (yn c))) :=
  bigSep_univ_eq_bigSepL [half c, half (yn c)] (by revert c; decide) (by simp [half_ne c]) Φ

omit [FloatOps F] in
/-- The result buffer is the row blocks of its two halves. -/
theorem out_pieces (c : Dev nD) (f : Buf (Elt F) ((c : Thread nD τ).loc cc0_stg1_0)) :
    ((((c : Thread nD τ).loc cc0_stg1_0) ↦{fullShare} f) : sProp 𝕄)
      = iprop(sepL allK (fun k => oPts c (half c) k f) ∗ sepL allK (fun k => oPts c (half (yn c)) k f)) := by
  rw [← sepL_all, ← sepL_all, ← bigSep_halves c (fun h => bigSep Finset.univ fun k => oPts c h k f),
    ← bigSep_univ_prod (fun p : Fin 2 × Fin 16 => oPts c p.1 p.2 f)]
  unfold oPts
  exact (congrArg (fun I => (((c : Thread nD τ).loc cc0_stg1_0) ↦[I]{fullShare} f : sProp 𝕄)) covO.symm).trans
    (pointsTo_biUnion Finset.univ _ fun p _ p' _ h => disjO p p' h)

omit [FloatOps F] in
theorem sepL_some {X : Type} (Φ : X → Fin 16 → sProp 𝕄) (x : X) : sepL allK (Φ x) ⊢ sepL allK fun k => iprop(∃ x, Φ x k) :=
  sepL_mono allK fun k => by iintro H; iexists x; iexact H

/-- The buffers cut up for the body. -/
theorem cut (c : Dev nD) (fs : Buf (Elt F) ((c : Thread nD τ).loc cc0_scratch0)) (fr : Buf (Elt F) ((c : Thread nD τ).loc cc0_scratch1))
    (fo : Buf (Elt F) ((c : Thread nD τ).loc cc0_stg1_0)) :
    iprop((((c : Thread nD τ).loc cc0_stg0_0) ↦{fullShare} xstg m ρ c) ∗ (((c : Thread nD τ).loc cc0_scratch0) ↦{fullShare} fs)
        ∗ (((c : Thread nD τ).loc cc0_scratch1) ↦{fullShare} fr) ∗ (((c : Thread nD τ).loc cc0_stg1_0) ↦{fullShare} fo))
      ⊢ pieces₀ m ρ c := by
  rw [send_slots, recv_slots, out_pieces]
  unfold pieces₀ xPts
  iintro ⟨Hx, Hs, Hr, Ho, Ho'⟩
  isplitl [Hx]; · iexact Hx
  isplitl [Hs]; · iapply (sepL_some (fun f k => sPts c fullShare k f) fs); iexact Hs
  isplitl [Hr]; · iapply (sepL_some (fun f k => rPts c k f) fr); iexact Hr
  isplitl [Ho]; · iapply (sepL_some (fun f k => oPts c (half c) k f) fo); iexact Ho
  iapply (sepL_some (fun f k => oPts c (half (yn c)) k f) fo); iexact Ho'

/-- The pieces put together again. -/
theorem uncut (c : Dev nD) :
    pieces₁ m ρ c ⊢ iprop((((c : Thread nD τ).loc cc0_stg0_0) ↦{fullShare} xstg m ρ c)
        ∗ (((c : Thread nD τ).loc cc0_scratch0) ↦{fullShare} XS m ρ c) ∗ (((c : Thread nD τ).loc cc0_scratch1) ↦{fullShare} XS m ρ (xn c))
        ∗ (((c : Thread nD τ).loc cc0_stg1_0) ↦{fullShare} OUT m ρ c)) := by
  rw [send_slots, recv_slots, out_pieces]
  unfold pieces₁ xPts
  iintro ⟨Hx, Hs, Hr, Ho, Ho'⟩
  isplitl [Hx]; · iexact Hx
  isplitl [Hs]
  · iapply (sepL_mono allK fun k => show iprop(sPts c fullShare.left k (XS m ρ c) ∗ sPts c fullShare.right k (XS m ρ c)) ⊢ sPts c fullShare k (XS m ρ c) from by
      unfold sPts; exact (pointsTo_share (PosShare.mem_left_op_right fullShare)).2)
    iexact Hs
  isplitl [Hr]; · iexact Hr
  isplitl [Ho] <;> iassumption

/-! ## The body's obligation to the pipeline -/

/-- What device `c` has when its body starts, beside its staged block and its result buffer, -/
def Φ₀ (c : Dev nD) : sProp 𝕄 :=
  iprop((given m ρ c ∗ creds₀ c ∗ levAts L lv)
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))
/-- and when it is over. -/
def Φ₁ (c : Dev nD) : sProp 𝕄 :=
  iprop(zeros c
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => OUT m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(Φ (0 : Fin 2) ∗ Φ (1 : Fin 2)) := bigSep_W0 Φ

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- Device `c`'s buffer `b` at contents `X`. -/
abbrev held (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, held c cc0_stg0_0 ((dats m ρ 0 c).before (0 : Fin 2) t0_0 d))
    ∗ (∃ d, held c cc0_stg1_0 ((dats m ρ 0 c).before (1 : Fin 2) t0_0 d)))

def bodyPost (c : Dev nD) : sProp 𝕄 :=
  iprop(Φ₁ c ∗ (dats m ρ 0 c).owesAt () t0_0.succ ∗ held c cc0_stg0_0 (xstg m ρ c) ∗ held c cc0_stg1_0 (OUT m ρ c))

theorem after_intro (c : Dev nD) : iprop(pieces₁ m ρ c ∗ zeros c ∗ owesE c 0) ⊢ bodyPost m ρ c := by
  unfold bodyPost Φ₁ Dat.owesAt Pipeline.owesWithin owesE
  rw [show (dats m ρ 0 c).owed t0_0.succ = 0 from rfl]
  iintro ⟨HP, Hz, ⟨%W, HO⟩⟩
  ihave HP := (uncut m ρ c) $$ HP
  icases HP with ⟨Hx, Hs, Hr, Ho⟩
  isplitl [Hz Hs Hr]
  · isplitl [Hz]; · iexact Hz
    isplitl [Hs]; · iexists _; iexact Hs
    iexists _; iexact Hr
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Ho

theorem fetch_x (t : Fin cfg0.N) : (cfg0.win (0 : Fin 2)).fetch t = true := fetch0_0 t

theorem body_runs (c : Dev nD) :
    bodyPre m ρ c ⊢ wp frame (wpE (defs₀ (F := F)) 𝒱₀ c none) Set.univ
      (cc0_body (F := F) xM (Memref.isWhole_whole _) oM (Memref.isWhole_whole _) sM (Memref.isWhole_whole _) rM (Memref.isWhole_whole _)
        cc0_scratch2 cc0_scratch3 cc0_scratch4 cc0_scratch5) (fun _ => bodyPost m ρ c) := by
  rw [body_eq, wp_deviceId]
  unfold bodyPre Φ₀ given Dat.owesAt Pipeline.owesWithin
  iintro ⟨⟨⟨⟨%K, HK, Hg⟩, Hc, Hl⟩, ⟨%fs, Hs⟩, ⟨%fr, Hr⟩⟩, ⟨%W, %hW, HO⟩, ⟨%d0, %g0, %hg0, Hx⟩, ⟨%d1, %g1, %hg1, Ho⟩⟩
  have hx : g0 = xstg m ρ c := by rw [hg0]; unfold Dat.before; rw [if_pos (fetch_x t0_0)]; rfl
  subst hx
  iapply ((chunked_runs m ρ K c).trans (wp_mono _ _ _ fun _ => after_intro m ρ c))
  unfold owesE
  isplitl [HK Hl]
  · iapply (records_intro m ρ K); isplitl [HK] <;> iassumption
  isplitl [Hg]; · iexact Hg
  isplitl [Hc]; · iexact Hc
  isplitl [Hx Hs Hr Ho]
  · iapply (cut m ρ c fs fr g1)
    isplitl [Hx]; · iexact Hx
    isplitl [Hs]; · iexact Hs
    isplitl [Hr] <;> iassumption
  iexists W; iexact HO

set_option maxRecDepth 4000 in
theorem body_obligation (c : Dev nD) : BodyObligation (dats (F := F) m ρ 0 c) (defs₀ (F := F)) 𝒱₀ () Set.univ := fun t => by
  rw [fin_N0 t]
  rw [bigSep_W, bigSep_W]
  simp only [owns_whole]
  exact body_runs m ρ c

/-! ## The launch theorem's side conditions -/

theorem share_eq (c : Dev nD) (w : Fin cfg0.W) : (dats m ρ 0 c).share w = fullShare := by unfold Dat.share; split <;> rfl

def start (c : Dev nD) : sProp 𝕄 := iprop(given m ρ c ∗ creds₀ c ∗ levAts L lv)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ given m ρ c)
      ⊢ |={Set.univ}=> iprop(start m ρ c ∗ emp) := by
  iintro ⟨-, Hl, Hcr, -, Hg⟩
  ihave Hc := (creds (F := F) c) $$ Hcr
  imodintro
  unfold start
  isplitl
  · isplitl [Hg]; · iexact Hg
    isplitl [Hc] <;> iassumption
  · iempintro

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ start
  iintro ⟨Hs, -, Hr⟩
  isplitl [Hs] <;> iassumption

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁
  rw [zeros_eq]
  iintro ⟨⟨H1, H2⟩, H3⟩
  isplitl [H1]; · iexact H1
  isplitl [H2] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- A window's array after the run. -/
def finalA (c : Dev nD) (w : Fin cfg0.W) : Buf (Elt F) ((cfg0.win w).arr.view.loc (c : Thread nD τ)) := (dats m ρ 0 c).arrAt w cfg0.N

def atEnd : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with all counters at zero, every execution of the program on the four devices ends, with the windows'
    arrays at `finalA` and all counters at zero. -/
theorem run_main : θ_run defs (onTc (τ := τ) (main (F := F))) (s₀ m ρ) (fun r => atEnd m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := dealt m ρ) (G' := given m ρ) (u₀ := u₀)
    (hu₀ := by
      unfold u₀
      iintro Hu
      ihave H := (ownU_pair _ _) $$ Hu
      icases H with ⟨HP, HX⟩
      imod (deal m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument is as it was. -/
theorem finalA_x (c : Dev nD) : finalA m ρ c (0 : Fin 2) = m ((c : Thread nD τ).loc main_arg0) :=
  (dats (F := F) m ρ 0 c).arrAt_in (0 : Fin 2) rfl _

/-- The result is `OUT`. -/
theorem finalA_out (c : Dev nD) : finalA m ρ c (1 : Fin 2) = OUT m ρ c := by
  have h : (win0_1.blk (0 : Fin 1)).view.read (Elt F) (finalA m ρ c (1 : Fin 2)) = OUT m ρ c := by
    unfold finalA
    rw [show cfg0.N = ((0 : Fin 1) : Fin cfg0.N).val + 1 from rfl, (dats m ρ 0 c).arrAt_succ (1 : Fin 2) (0 : Fin 1)]
    rw [show (cfg0.win (1 : Fin 2)).flush (0 : Fin 1) = true from by decide, if_pos rfl]
    exact View.read_write_univ _ _
  have hz : (fun a => (win0_1.index (0 : Fin 1)) a * main_v1.ty.shape.size a) = fun _ => 0 :=
    funext fun a => by fin_cases a <;> decide
  exact (Memref.read_access_unit_zero (Elt F) main_v1 hz (fun a => by fin_cases a <;> decide) _).symm.trans h

/-- The staged block is the device's argument. -/
theorem xstg_eq (c : Dev nD) : xstg m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

end Cert.KernelIdeal.Exchange

end
-- ==== Proof.Value.lean ====
/-
The value of the exchange: the sum of the two row halves of the whole array.

At an index the result of a device is the sum of the two blocks that the devices of one mesh column hold; which of the two
is added to the other depends on the device's row, and over the extended reals it does not matter. The reference's sum over
the leading axis of the reshaped array is the same two entries.
-/
module

public import proofs.«01_k».proof.Defs
public import proofs.«01_k».proof.Proof.KernelIdeal.Launch
public import proofs.«01_k».proof.Proof.Gen.ReferenceIdeal
public import Idealize.ShloMosaic.Lib.ValueIdx
public import Idealize.ShloMosaic.Lib.IdealHost
public import Idealize.ShloMosaic.Lib.Pointwise.Reduce
public import Idealize.ShloMosaic.Lib.Pipeline.Value

@[expose] public section

noncomputable section

namespace Cert.KernelIdeal.Exchange

open Cert.KernelIdeal Cert.KernelIdeal.Gen
open Idealize.ShloMosaic
open Idealize.ShloMosaic.TcCoe
open Idealize.SL.Sem

/-! ## The result, element by element -/

section Element
variable {F : FTy → Type} [FloatOps F]
variable (m : (ℓ : Loc nD τ sig) → Buf (Elt F) ℓ) (ρ : Dev nD → PrngReg)

/-- A slot of the send buffer, read back as a matrix, is the chunk that was staged there. -/
theorem slot_send (c : Dev nD) (k : Fin 16) :
    shapeCast S64x512 (sM.view.readAt (Elt F) (rB k).toLoadRect (XS m ρ c) : Vec F S1x64x512 .bf16) shapeCasts_S1x64x512_S64x512
      = fun x => xstg m ρ c ((rX k).emb x) := by
  have h : (sM.view.readAt (Elt F) (rB k).toLoadRect (XS m ρ c) : Vec F S1x64x512 .bf16) = staged m ρ c k :=
    funext fun y => XS_emb m ρ c k y
  rw [h]
  exact (shapeCast_shapeCast _ shapeCasts_S64x512_S1x64x512 shapeCasts_S1x64x512_S64x512).trans (shapeCast_self _ _)

/-- The same of the receive buffer. -/
theorem slot_recv (c : Dev nD) (k : Fin 16) :
    shapeCast S64x512 (rM.view.readAt (Elt F) (rB k).toLoadRect (XS m ρ c) : Vec F S1x64x512 .bf16) shapeCasts_S1x64x512_S64x512
      = fun x => xstg m ρ c ((rX k).emb x) := by
  have h : (rM.view.readAt (Elt F) (rB k).toLoadRect (XS m ρ c) : Vec F S1x64x512 .bf16) = staged m ρ c k :=
    funext fun y => XS_emb m ρ c k y
  rw [h]
  exact (shapeCast_shapeCast _ shapeCasts_S64x512_S1x64x512 shapeCasts_S1x64x512_S64x512).trans (shapeCast_self _ _)

end Element

variable (m : (ℓ : Loc nD τ sig) → Buf (Elt Ideal) ℓ) (ρ : Dev nD → PrngReg)

/-- A device's sum adds, entry by entry, its own block and the block of the device in the other row. -/
theorem sumC_apply (d : Dev nD) (k : Fin 16) (x : S64x512.Idx) :
    sumC m ρ d k x = (show EReal from m ((d : Thread nD τ).loc main_arg0) ((rX k).emb x))
      + (show EReal from m ((xn d : Thread nD τ).loc main_arg0) ((rX k).emb x)) := by
  unfold sumC
  rw [slot_send, slot_recv, ← xstg_eq m ρ d, ← xstg_eq m ρ (xn d)]
  rfl

/-- The sum of the two row halves of an array. -/
def rowSum (v : (⟨2, ![2048, 1024]⟩ : Shape).Idx → EReal) : (⟨2, ![1024, 1024]⟩ : Shape).Idx → EReal := fun i =>
  v (ValueIdx.ix2 ⟨(i 0).val, lt_trans (i 0).isLt (by decide)⟩ ⟨(i 1).val, (i 1).isLt⟩)
    + v (ValueIdx.ix2 ⟨1024 + (i 0).val, Nat.add_lt_add_left (i 0).isLt 1024⟩ ⟨(i 1).val, (i 1).isLt⟩)

/-- If every device's argument is its block of `v`, every device's result is the sum of the two row halves of `v`. -/
theorem OUT_eq (v : (⟨2, ![2048, 1024]⟩ : Shape).Idx → EReal)
    (hm : ∀ c : Dev nD, m ((c : Thread nD τ).loc main_arg0)
      = Layout.blockN ⟨2, ![1024, 512]⟩ ⟨2, ![2048, 1024]⟩ (Layout.meshBlock [2, 2] ![[0], [1]] c) v) (c : Dev nD) :
    OUT m ρ c = rowSum v := by
  funext i
  have hi : i ∈ (Finset.univ : Finset (Fin 2 × Fin 16)).biUnion (fun p => (rO p.1 p.2).set) := covO ▸ Finset.mem_univ i
  obtain ⟨⟨h, k⟩, -, hp⟩ := Finset.mem_biUnion.mp hi
  rw [← Rect.map_emb_univ, Finset.mem_map] at hp
  obtain ⟨x, -, rfl⟩ := hp
  have e0 : ((rO h k).emb x 0).val = 64 * k.val + 1 * (x 0).val := rfl
  have e1 : ((rO h k).emb x 1).val = 512 * h.val + 1 * (x 1).val := rfl
  have f0 : ((rX k).emb x 0).val = 64 * k.val + 1 * (x 0).val := rfl
  have f1 : ((rX k).emb x 1).val = 0 + 1 * (x 1).val := rfl
  have at_ : ∀ (d : Dev nD) (a : Fin 2048) (b : Fin 1024), a.val = d.val / 2 * 1024 + ((rO h k).emb x 0).val → b.val = ((rO h k).emb x 1).val →
      d.val % 2 = h.val → m ((d : Thread nD τ).loc main_arg0) ((rX k).emb x) = v (ValueIdx.ix2 a b) := by
    intro d a b ha hb hd
    rw [hm d, Layout.blockN_apply]
    refine congrArg v (Shape.idx_ext₂ ?_ ?_)
    · rw [Layout.TilesN.idx_val, Layout.meshBlock_val]
      have : d.val / 2 < 2 := by have := d.isLt; simp only [nD] at this; omega
      show (d.val / 2 % 2 * 1 + 0) * 1024 + ((rX k).emb x 0).val = a.val
      omega
    · rw [Layout.TilesN.idx_val, Layout.meshBlock_val]
      show (d.val / 1 % 2 * 1 + 0) * 512 + ((rX k).emb x 1).val = b.val
      omega
  have hc : (col c h).val = 2 * (c.val / 2) + h.val := rfl
  have hx : (xn (col c h)).val = ((col c h).val % 2 + 2) - 2 * ((col c h).val / 2) := rfl
  have hlt : c.val < 4 := c.isLt
  have hh : h.val < 2 := h.isLt
  have l0 : ((rO h k).emb x 0).val < 1024 := ((rO h k).emb x 0).isLt
  rw [OUT_emb, sumC_apply]
  unfold rowSum
  rcases Nat.lt_or_ge c.val 2 with hr | hr
  · rw [at_ (col c h) ⟨((rO h k).emb x 0).val, by omega⟩ ⟨((rO h k).emb x 1).val, ((rO h k).emb x 1).isLt⟩ (by show ((rO h k).emb x 0).val = _; omega) rfl (by omega),
      at_ (xn (col c h)) ⟨1024 + ((rO h k).emb x 0).val, by omega⟩ ⟨((rO h k).emb x 1).val, ((rO h k).emb x 1).isLt⟩ (by show 1024 + ((rO h k).emb x 0).val = _; omega) rfl (by omega)]
  · rw [at_ (col c h) ⟨1024 + ((rO h k).emb x 0).val, by omega⟩ ⟨((rO h k).emb x 1).val, ((rO h k).emb x 1).isLt⟩ (by show 1024 + ((rO h k).emb x 0).val = _; omega) rfl (by omega),
      at_ (xn (col c h)) ⟨((rO h k).emb x 0).val, by omega⟩ ⟨((rO h k).emb x 1).val, ((rO h k).emb x 1).isLt⟩ (by show ((rO h k).emb x 0).val = _; omega) rfl (by omega)]
    exact add_comm _ _

end Cert.KernelIdeal.Exchange

namespace Cert.ReferenceIdeal.Exchange

open Cert.ReferenceIdeal Cert.ReferenceIdeal.Gen
open Idealize.ShloMosaic

/-- The reference's term is the sum of the two row halves of its argument. -/
theorem refVal_eq (v : FVec Ideal S2048x1024 .bf16) :
    (truncf .bf16 (Host.reduceAdd (extf .f32 (shapeCast _ v shapeCasts_S2048x1024_S2x1024x1024) bitsLt_bf16_f32) (constant S_ .f32 0x00000000#32) reducesTo_S2x1024x1024_S1024x1024_d0 h_S_) bitsLt_bf16_f32 : FVec Ideal S1024x1024 .bf16)
      = Cert.KernelIdeal.Exchange.rowSum v := by
  funext i
  rw [ValueIdx.truncf_apply, ValueIdx.hostReduceAdd_apply, Ideal.hostReduceAdd_r3_a0, ValueIdx.constant_apply, Fin.sum_univ_two]
  rw [ValueIdx.extf_apply, ValueIdx.extf_apply]
  unfold Cert.KernelIdeal.Exchange.rowSum
  rw [shapeCast_apply v _ _ (ValueIdx.ix2 ⟨(i 0).val, lt_trans (i 0).isLt (by decide)⟩ ⟨(i 1).val, (i 1).isLt⟩) (by
      rw [Shape.rowMajor_val_three, Shape.rowMajor_val_two]
      show (i 0).val * 1024 + (i 1).val = (0 * 1024 + (i 0).val) * 1024 + (i 1).val
      omega),
    shapeCast_apply v _ _ (ValueIdx.ix2 ⟨1024 + (i 0).val, Nat.add_lt_add_left (i 0).isLt 1024⟩ ⟨(i 1).val, (i 1).isLt⟩) (by
      rw [Shape.rowMajor_val_three, Shape.rowMajor_val_two]
      show (1024 + (i 0).val) * 1024 + (i 1).val = (1 * 1024 + (i 0).val) * 1024 + (i 1).val
      omega)]
  rw [show Ideal.ofBits .f32 0x00000000#32 = 0 from by simp [Ideal.ofBits, Ideal.ieee], zero_add]

end Cert.ReferenceIdeal.Exchange

end
-- ==== Proof.lean ====
/-
The five claims about the exchange along the rows of a 2×2 mesh.

The value run of the printed kernel and of its ideal counterpart (`run_main`) gives both frames; the ideal run's result is
the sum of the two row halves of the whole array (`OUT_eq`), and so is the reference's term (`refVal_eq`).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Value
public import Idealize.ShloMosaic.Adequacy
public import Idealize.ShloMosaic.Init

@[expose] public section

noncomputable section

namespace Cert.Proof

open Idealize.ShloMosaic Idealize.SL.Sem

/-- The printed kernel leaves its argument as it was and every semaphore at zero. -/
theorem quiescent_Kernel : Cert.quiescent_Kernel := fun m g _ =>
  (θ_run Cert.Kernel.defs _ _).mono (fun _ h => ⟨fun c => (h.1 c (0 : Fin 2)).trans (Cert.Kernel.Exchange.finalA_x m g c), h.2⟩)
    (Cert.Kernel.Exchange.run_main (F := Bits) m g)

/-- The ideal kernel leaves its argument as it was and every semaphore at zero. -/
theorem quiescent_KernelIdeal : Cert.quiescent_KernelIdeal := fun m g _ =>
  (θ_run Cert.KernelIdeal.defs _ _).mono (fun _ h => ⟨fun c => (h.1 c (0 : Fin 2)).trans (Cert.KernelIdeal.Exchange.finalA_x m g c), h.2⟩)
    (Cert.KernelIdeal.Exchange.run_main (F := Ideal) m g)

/-- The reference leaves its argument as it was; it has no semaphores. -/
theorem quiescent_ReferenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- On every device the ideal kernel's result is the reference's, when each device's argument is its block of the
reference's argument. -/
theorem algebraic : Cert.algebraic_KernelIdeal_ReferenceIdeal := fun m g m' g' _ hm =>
  ⟨Cert.KernelIdeal.Exchange.rowSum (m' (((0 : Dev Cert.ReferenceIdeal.nD).tc (τ := Cert.ReferenceIdeal.τ)).loc Cert.ReferenceIdeal.main_arg0)),
    (θ_run Cert.KernelIdeal.defs _ _).mono
      (fun _ h c => ⟨(h.1 c (1 : Fin 2)).trans ((Cert.KernelIdeal.Exchange.finalA_out m g c).trans (Cert.KernelIdeal.Exchange.OUT_eq m g _ hm c)),
        (h.1 c (0 : Fin 2)).trans (Cert.KernelIdeal.Exchange.finalA_x m g c)⟩)
      (Cert.KernelIdeal.Exchange.run_main (F := Ideal) m g),
    (θ_run Cert.ReferenceIdeal.defs _ _).mono
      (fun _ h => ⟨(h 0).1.trans (Cert.ReferenceIdeal.Exchange.refVal_eq _), (h 0).2⟩)
      (Cert.ReferenceIdeal.Value.run (F := Ideal) m' g')⟩

/-- All five claims; the printed kernel and the ideal kernel differ by no rewrite. -/
theorem claim : Cert.Claim :=
  ⟨Cert.Kernel.Gen.facts, Cert.KernelIdeal.Gen.facts, Cert.ReferenceIdeal.Gen.facts,
    quiescent_Kernel, quiescent_KernelIdeal, quiescent_ReferenceIdeal, trivial, algebraic⟩

end Cert.Proof

end
